-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "inv_t" .f32 0x41649249#32 ((134217728 / 9395241 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x2048 : Shape := ⟨2, ![1024, 2048]⟩
abbrev S2048x128 : Shape := ⟨2, ![2048, 128]⟩
abbrev S128 : Shape := ⟨1, ![128]⟩
abbrev S128x1000 : Shape := ⟨2, ![128, 1000]⟩
abbrev S1000 : Shape := ⟨1, ![1000]⟩
abbrev S128x16384 : Shape := ⟨2, ![128, 16384]⟩
abbrev S1x128 : Shape := ⟨2, ![1, 128]⟩
abbrev S1x1000 : Shape := ⟨2, ![1, 1000]⟩
abbrev S1024x128 : Shape := ⟨2, ![1024, 128]⟩
abbrev S1024x1000 : Shape := ⟨2, ![1024, 1000]⟩
abbrev S1024x16385 : Shape := ⟨2, ![1024, 16385]⟩
abbrev S256x2048 : Shape := ⟨2, ![256, 2048]⟩
abbrev S256x128 : Shape := ⟨2, ![256, 128]⟩
abbrev S256x1000 : Shape := ⟨2, ![256, 1000]⟩
abbrev S256x16385 : Shape := ⟨2, ![256, 16385]⟩
abbrev S128x16385 : Shape := ⟨2, ![128, 16385]⟩
abbrev S128x1 : Shape := ⟨2, ![128, 1]⟩
abbrev S256 : Shape := ⟨1, ![256]⟩
abbrev S256x1 : Shape := ⟨2, ![256, 1]⟩

abbrev nBuf : Space → Nat
  | .hbm => 18
  | .vmem => 20
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S2048x128, .f32⟩
  | .hbm, ⟨3, _⟩ => ⟨S128, .f32⟩
  | .hbm, ⟨4, _⟩ => ⟨S128x1000, .f32⟩
  | .hbm, ⟨5, _⟩ => ⟨S1000, .f32⟩
  | .hbm, ⟨6, _⟩ => ⟨S2048x128, .f32⟩
  | .hbm, ⟨7, _⟩ => ⟨S128, .f32⟩
  | .hbm, ⟨8, _⟩ => ⟨S128x1000, .f32⟩
  | .hbm, ⟨9, _⟩ => ⟨S1000, .f32⟩
  | .hbm, ⟨10, _⟩ => ⟨S128x16384, .f32⟩
  | .hbm, ⟨11, _⟩ => ⟨S1x128, .f32⟩
  | .hbm, ⟨12, _⟩ => ⟨S1x1000, .f32⟩
  | .hbm, ⟨13, _⟩ => ⟨S1x128, .f32⟩
  | .hbm, ⟨14, _⟩ => ⟨S1024x128, .f32⟩
  | .hbm, ⟨15, _⟩ => ⟨S1024x1000, .f32⟩
  | .hbm, ⟨16, _⟩ => ⟨S1024x16385, .f32⟩
  | .hbm, ⟨17, _⟩ => ⟨S1024x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S2048x128, .f32⟩
  | .local _ .vmem, ⟨5, _⟩ => ⟨S1x128, .f32⟩
  | .local _ .vmem, ⟨6, _⟩ => ⟨S128x1000, .f32⟩
  | .local _ .vmem, ⟨7, _⟩ => ⟨S1x1000, .f32⟩
  | .local _ .vmem, ⟨8, _⟩ => ⟨S2048x128, .f32⟩
  | .local _ .vmem, ⟨9, _⟩ => ⟨S1x128, .f32⟩
  | .local _ .vmem, ⟨10, _⟩ => ⟨S128x16384, .f32⟩
  | .local _ .vmem, ⟨11, _⟩ => ⟨S256x128, .f32⟩
  | .local _ .vmem, ⟨12, _⟩ => ⟨S256x128, .f32⟩
  | .local _ .vmem, ⟨13, _⟩ => ⟨S256x1000, .f32⟩
  | .local _ .vmem, ⟨14, _⟩ => ⟨S256x1000, .f32⟩
  | .local _ .vmem, ⟨15, _⟩ => ⟨S256x16385, .f32⟩
  | .local _ .vmem, ⟨16, _⟩ => ⟨S256x16385, .f32⟩
  | .local _ .vmem, ⟨17, _⟩ => ⟨S256x128, .f32⟩
  | .local _ .vmem, ⟨18, _⟩ => ⟨S256x128, .f32⟩
  | .local _ .vmem, ⟨19, _⟩ => ⟨S128x16385, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x16384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1000 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x16385 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "inv_t" => some ((134217728 / 9395241 : ℝ) : EReal)
  | _ => none
-- ==== ReferenceIdeal.lean ====
abbrev S1024x2048 : Shape := ⟨2, ![1024, 2048]⟩
abbrev S2048x128 : Shape := ⟨2, ![2048, 128]⟩
abbrev S128 : Shape := ⟨1, ![128]⟩
abbrev S128x1000 : Shape := ⟨2, ![128, 1000]⟩
abbrev S1000 : Shape := ⟨1, ![1000]⟩
abbrev S128x16384 : Shape := ⟨2, ![128, 16384]⟩
abbrev S1024x128 : Shape := ⟨2, ![1024, 128]⟩
abbrev S1x128 : Shape := ⟨2, ![1, 128]⟩
abbrev S1024x1000 : Shape := ⟨2, ![1024, 1000]⟩
abbrev S1x1000 : Shape := ⟨2, ![1, 1000]⟩
abbrev S_ : Shape := ⟨0, ![]⟩
abbrev S1024 : Shape := ⟨1, ![1024]⟩
abbrev S1024x1 : Shape := ⟨2, ![1024, 1]⟩
abbrev S1024x16384 : Shape := ⟨2, ![1024, 16384]⟩
abbrev S1024x16385 : Shape := ⟨2, ![1024, 16385]⟩

abbrev nBuf : Space → Nat
  | .hbm => 66
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S2048x128, .f32⟩
  | .hbm, ⟨3, _⟩ => ⟨S128, .f32⟩
  | .hbm, ⟨4, _⟩ => ⟨S128x1000, .f32⟩
  | .hbm, ⟨5, _⟩ => ⟨S1000, .f32⟩
  | .hbm, ⟨6, _⟩ => ⟨S2048x128, .f32⟩
  | .hbm, ⟨7, _⟩ => ⟨S128, .f32⟩
  | .hbm, ⟨8, _⟩ => ⟨S128x1000, .f32⟩
  | .hbm, ⟨9, _⟩ => ⟨S1000, .f32⟩
  | .hbm, ⟨10, _⟩ => ⟨S128x16384, .f32⟩
  | .hbm, ⟨11, _⟩ => ⟨S1024x128, .f32⟩
  | .hbm, ⟨12, _⟩ => ⟨S1x128, .f32⟩
  | .hbm, ⟨13, _⟩ => ⟨S1024x128, .f32⟩
  | .hbm, ⟨14, _⟩ => ⟨S1024x128, .f32⟩
  | .hbm, ⟨15, _⟩ => ⟨S1024x1000, .f32⟩
  | .hbm, ⟨16, _⟩ => ⟨S1x1000, .f32⟩
  | .hbm, ⟨17, _⟩ => ⟨S1024x1000, .f32⟩
  | .hbm, ⟨18, _⟩ => ⟨S1024x1000, .f32⟩
  | .hbm, ⟨19, _⟩ => ⟨S1024x128, .f32⟩
  | .hbm, ⟨20, _⟩ => ⟨S_, .f32⟩
  | .hbm, ⟨21, _⟩ => ⟨S1024, .f32⟩
  | .hbm, ⟨22, _⟩ => ⟨S1024x1, .f32⟩
  | .hbm, ⟨23, _⟩ => ⟨S1024x1, .f32⟩
  | .hbm, ⟨24, _⟩ => ⟨S_, .f32⟩
  | .hbm, ⟨25, _⟩ => ⟨S1024x1, .f32⟩
  | .hbm, ⟨26, _⟩ => ⟨S1024x1, .f32⟩
  | .hbm, ⟨27, _⟩ => ⟨S1024x128, .f32⟩
  | .hbm, ⟨28, _⟩ => ⟨S1024x128, .f32⟩
  | .hbm, ⟨29, _⟩ => ⟨S_, .f32⟩
  | .hbm, ⟨30, _⟩ => ⟨S2048x128, .f32⟩
  | .hbm, ⟨31, _⟩ => ⟨S2048x128, .f32⟩
  | .hbm, ⟨32, _⟩ => ⟨S_, .f32⟩
  | .hbm, ⟨33, _⟩ => ⟨S2048x128, .f32⟩
  | .hbm, ⟨34, _⟩ => ⟨S2048x128, .f32⟩
  | .hbm, ⟨35, _⟩ => ⟨S2048x128, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S1024x128, .f32⟩
  | .hbm, ⟨44, _⟩ => ⟨S1x128, .f32⟩
  | .hbm, ⟨45, _⟩ => ⟨S1024x128, .f32⟩
  | .hbm, ⟨46, _⟩ => ⟨S1024x128, .f32⟩
  | .hbm, ⟨47, _⟩ => ⟨S1024x128, .f32⟩
  | .hbm, ⟨48, _⟩ => ⟨S_, .f32⟩
  | .hbm, ⟨49, _⟩ => ⟨S1024, .f32⟩
  | .hbm, ⟨50, _⟩ => ⟨S1024x1, .f32⟩
  | .hbm, ⟨51, _⟩ => ⟨S1024x1, .f32⟩
  | .hbm, ⟨52, _⟩ => ⟨S_, .f32⟩
  | .hbm, ⟨53, _⟩ => ⟨S1024x1, .f32⟩
  | .hbm, ⟨54, _⟩ => ⟨S1024x1, .f32⟩
  | .hbm, ⟨55, _⟩ => ⟨S1024x128, .f32⟩
  | .hbm, ⟨56, _⟩ => ⟨S1024x128, .f32⟩
  | .hbm, ⟨57, _⟩ => ⟨S1024x128, .f32⟩
  | .hbm, ⟨58, _⟩ => ⟨S_, .f32⟩
  | .hbm, ⟨59, _⟩ => ⟨S1024, .f32⟩
  | .hbm, ⟨60, _⟩ => ⟨S1024x1, .f32⟩
  | .hbm, ⟨61, _⟩ => ⟨S1024x16384, .f32⟩
  | .hbm, ⟨62, _⟩ => ⟨S1024x16385, .f32⟩
  | .hbm, ⟨63, _⟩ => ⟨S_, .f32⟩
  | .hbm, ⟨64, _⟩ => ⟨S1024x16385, .f32⟩
  | .hbm, ⟨65, _⟩ => ⟨S1024x16385, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_call0_v2 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call1_v0 : Ref sig .tc := ⟨.hbm, 47, rfl⟩
abbrev main_call1_cst : Ref sig .tc := ⟨.hbm, 48, rfl⟩
abbrev main_call1_v1 : Ref sig .tc := ⟨.hbm, 49, rfl⟩
abbrev main_call1_v2 : Ref sig .tc := ⟨.hbm, 50, rfl⟩
abbrev main_v27 : Ref sig .tc := ⟨.hbm, 51, rfl⟩
abbrev main_cst_4 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩

abbrev nD : Nat := 1
abbrev τ : Topo := Topo.v7x

variable {F : FTy → Type} [FloatOps F]
-- ==== Proof.BitsBody.lean ====
module

public import proofs.«01_k».proof.Proof.Gen.Kernel.Frame.RunB
public import Idealize.ShloMosaic.Lib.Pipeline.Value
public import Idealize.ShloMosaic.Lib.Pointwise

/-!
What the kernel's body, at its bits, leaves in each buffer, at a grid point that fills the feature bank (the first) and at one that finds
it filled (every later one). Both cases leave the same values: they differ in where the bank comes from.
-/

@[expose] public section

set_option maxRecDepth 16384

noncomputable section

namespace Cert.Kernel.Body

open Cert.Kernel Cert.Kernel.Gen Idealize.ShloMosaic Idealize.ShloMosaic.TcCoe Idealize.SL.Sem

variable {F : FTy → Type} [FloatOps F]

/-- A rectangle written at offsets zero and zero is written at the origin. -/
theorem zeros : (![0, 0] : Fin 2 → ℕ) = fun _ => 0 := by decide

/-! ## The values a point leaves -/

/-- The two stores that fill the bank: the features from column 1 on, over a zero column 0. -/
def bankPieces (x8 : Vec F S128x16384 .f32) : List (View.Piece (Elt F) S128x16385 .bf16) :=
  [⟨Rect.unit ![0, 1] ![128, 16384] inb_S128x16385_S128x16384_0_1, k0_pay3 x8⟩,
    ⟨Rect.unit ![0, 0] ![128, 1] inb_S128x16385_S128x1_0_0, k0_pay2⟩]

/-- The bank once filled. -/
def bank (x8 : Vec F S128x16384 .f32) : Vec F S128x16385 .bf16 := View.canon (bankPieces x8)

/-- The two stores of the score block: the query block times the bank, then the positive pair's score over column 0. -/
def scorePieces (x0 x1 : Vec F S256x2048 .f32) (x2 : Vec F S2048x128 .f32) (x3 : Vec F S1x128 .f32)
    (x6 : Vec F S2048x128 .f32) (x7 : Vec F S1x128 .f32) (S : Vec F S128x16385 .bf16) :
    List (View.Piece (Elt F) S256x16385 .f32) :=
  [⟨Rect.unit ![0, 0] ![256, 1] inb_S256x16385_S256x1_0_0, k0_pay1 (k0_pay10 (k0_pay6 x0 x2 x3) (k0_pay7 x6) x2 x7 x3 x1)⟩,
    ⟨Rect.unit ![0, 0] ![256, 16385] inb_S256x16385_S256x16385_0_0, k0_pay9 (k0_pay6 x0 x2 x3) S⟩]

/-- The score block a point leaves when the bank holds `S`. -/
def scores (x0 x1 : Vec F S256x2048 .f32) (x2 : Vec F S2048x128 .f32) (x3 : Vec F S1x128 .f32)
    (x6 : Vec F S2048x128 .f32) (x7 : Vec F S1x128 .f32) (S : Vec F S128x16385 .bf16) : Vec F S256x16385 .f32 :=
  View.canon (scorePieces x0 x1 x2 x3 x6 x7 S)

/-- Every index of the bank is in one of its two stores: column 0 in the zero column, any other in the features. -/
theorem bank_cover (x8 : Vec F S128x16384 .f32) (y : S128x16385.Idx) : ∃ p ∈ bankPieces x8, y ∈ p.1.set := by
  have h0 : (y 0).val < 128 := (y 0).isLt
  have h1 : (y 1).val < 16385 := (y 1).isLt
  by_cases hz : (y 1).val = 0
  · refine ⟨_, List.mem_cons_of_mem _ List.mem_cons_self, (Rect.mem_set_unit (inb := inb_S128x16385_S128x1_0_0)).mpr fun a => ?_⟩
    match a with
    | ⟨0, _⟩ => exact ⟨Nat.zero_le _, h0⟩
    | ⟨1, _⟩ => exact ⟨Nat.zero_le _, show (y 1).val < 0 + 1 by omega⟩
  · refine ⟨_, List.mem_cons_self, (Rect.mem_set_unit (inb := inb_S128x16385_S128x16384_0_1)).mpr fun a => ?_⟩
    match a with
    | ⟨0, _⟩ => exact ⟨Nat.zero_le _, h0⟩
    | ⟨1, _⟩ => exact ⟨show 1 ≤ (y 1).val by omega, show (y 1).val < 1 + 16384 by omega⟩

/-- The score block's second store is the whole block, so the two cover it. -/
theorem score_cover (x0 x1 : Vec F S256x2048 .f32) (x2 : Vec F S2048x128 .f32) (x3 : Vec F S1x128 .f32)
    (x6 : Vec F S2048x128 .f32) (x7 : Vec F S1x128 .f32) (S : Vec F S128x16385 .bf16) (y : S256x16385.Idx) :
    ∃ p ∈ scorePieces x0 x1 x2 x3 x6 x7 S, y ∈ p.1.set := by
  refine ⟨_, List.mem_cons_of_mem _ List.mem_cons_self, (Rect.mem_set_unit (inb := inb_S256x16385_S256x16385_0_0)).mpr fun a => ?_⟩
  match a with
  | ⟨0, _⟩ => exact ⟨Nat.zero_le _, (y 0).isLt⟩
  | ⟨1, _⟩ => exact ⟨Nat.zero_le _, (y 1).isLt⟩

/-- A load of the whole bank right after its two stores reads the filled bank. -/
theorem readCov_bank (v : View sig .tc .vmem S128x16385 .bf16) (x8 : Vec F S128x16384 .f32) :
    v.readCov [⟨Rect.unit ![0, 1] ![128, 16384] inb_S128x16385_S128x16384_0_1, k0_pay3 x8⟩,
      ⟨Rect.unit ![0, 0] ![128, 1] inb_S128x16385_S128x1_0_0, k0_pay2⟩]
      (Rect.unit ![0, 0] ![128, 16385] inb_S128x16385_S128x16385_0_0).toLoadRect = bank x8 := by
  refine (View.readCov_eq_canon_ld v (bankPieces x8) _ fun x => bank_cover x8 _).trans ?_
  exact View.ld_unit_zero (S := S128x16385) zeros ..

/-! ## The body's stores, case by case -/

section Runs

variable (c : Dev nD) (i : grid0.Coords)
  {arg1 : Memref sig .tc .vmem S256x2048 .f32} (harg1 : arg1.IsWhole)
  {arg2 : Memref sig .tc .vmem S256x2048 .f32} (harg2 : arg2.IsWhole)
  {arg3 : Memref sig .tc .vmem S2048x128 .f32} (harg3 : arg3.IsWhole)
  {arg4 : Memref sig .tc .vmem S1x128 .f32} (harg4 : arg4.IsWhole)
  {arg5 : Memref sig .tc .vmem S128x1000 .f32} (harg5 : arg5.IsWhole)
  {arg6 : Memref sig .tc .vmem S1x1000 .f32} (harg6 : arg6.IsWhole)
  {arg7 : Memref sig .tc .vmem S2048x128 .f32} (harg7 : arg7.IsWhole)
  {arg8 : Memref sig .tc .vmem S1x128 .f32} (harg8 : arg8.IsWhole)
  {arg9 : Memref sig .tc .vmem S128x16384 .f32} (harg9 : arg9.IsWhole)
  {arg10 : Memref sig .tc .vmem S256x128 .f32} (harg10 : arg10.IsWhole)
  {arg11 : Memref sig .tc .vmem S256x1000 .f32} (harg11 : arg11.IsWhole)
  {arg12 : Memref sig .tc .vmem S256x16385 .f32} (harg12 : arg12.IsWhole)
  {arg13 : Memref sig .tc .vmem S256x128 .f32} (harg13 : arg13.IsWhole)
  {arg14 : Memref sig .tc .vmem S128x16385 .bf16} (harg14 : arg14.IsWhole)
  (hc : cond0_0 i) (hn : ¬cond0_0 i)
  (x0 : Vec F S256x2048 .f32)
  (x1 : Vec F S256x2048 .f32)
  (x2 : Vec F S2048x128 .f32)
  (x3 : Vec F S1x128 .f32)
  (x4 : Vec F S128x1000 .f32)
  (x5 : Vec F S1x1000 .f32)
  (x6 : Vec F S2048x128 .f32)
  (x7 : Vec F S1x128 .f32)
  (x8 : Vec F S128x16384 .f32)
  (S : Vec F S128x16385 .bf16)

/-- What the first point stores into the feature block. -/
theorem first_pieces_9 : (kernelRun0_A c i _ harg1 _ harg2 _ harg3 _ harg4 _ harg5 _ harg6 _ harg7 _ harg8 _ harg9 _ harg10 _ harg11 _ harg12 _ harg13 _ harg14 hc x0 x1 x2 x3 x4 x5 x6 x7 x8).1 =
    [⟨Rect.unit ![0, 0] ![256, 128] inb_S256x128_S256x128_0_0, k0_pay4 x0 x2 x3⟩] := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, readCov_bank,
    View.ld_unit_zero (S := S256x2048) zeros, View.ld_unit_zero (S := S2048x128) zeros, View.ld_unit_zero (S := S1x128) zeros,
    View.ld_unit_zero (S := S128x1000) zeros, View.ld_unit_zero (S := S1x1000) zeros, View.ld_unit_zero (S := S128x16384) zeros,
    View.ld_unit_zero (S := S128x16385) zeros]

/-- What the first point stores into the class-score block. -/
theorem first_pieces_10 : (kernelRun0_A c i _ harg1 _ harg2 _ harg3 _ harg4 _ harg5 _ harg6 _ harg7 _ harg8 _ harg9 _ harg10 _ harg11 _ harg12 _ harg13 _ harg14 hc x0 x1 x2 x3 x4 x5 x6 x7 x8).2.1 =
    [⟨Rect.unit ![0, 0] ![256, 1000] inb_S256x1000_S256x1000_0_0, k0_pay5 x0 x2 x3 x4 x5⟩] := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, readCov_bank,
    View.ld_unit_zero (S := S256x2048) zeros, View.ld_unit_zero (S := S2048x128) zeros, View.ld_unit_zero (S := S1x128) zeros,
    View.ld_unit_zero (S := S128x1000) zeros, View.ld_unit_zero (S := S1x1000) zeros, View.ld_unit_zero (S := S128x16384) zeros,
    View.ld_unit_zero (S := S128x16385) zeros]

/-- What the first point stores into the score block. -/
theorem first_pieces_11 : (kernelRun0_A c i _ harg1 _ harg2 _ harg3 _ harg4 _ harg5 _ harg6 _ harg7 _ harg8 _ harg9 _ harg10 _ harg11 _ harg12 _ harg13 _ harg14 hc x0 x1 x2 x3 x4 x5 x6 x7 x8).2.2.1 =
    scorePieces x0 x1 x2 x3 x6 x7 (bank x8) := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, readCov_bank,
    View.ld_unit_zero (S := S256x2048) zeros, View.ld_unit_zero (S := S2048x128) zeros, View.ld_unit_zero (S := S1x128) zeros,
    View.ld_unit_zero (S := S128x1000) zeros, View.ld_unit_zero (S := S1x1000) zeros, View.ld_unit_zero (S := S128x16384) zeros,
    View.ld_unit_zero (S := S128x16385) zeros]
  rfl

/-- What the first point stores into the key block. -/
theorem first_pieces_12 : (kernelRun0_A c i _ harg1 _ harg2 _ harg3 _ harg4 _ harg5 _ harg6 _ harg7 _ harg8 _ harg9 _ harg10 _ harg11 _ harg12 _ harg13 _ harg14 hc x0 x1 x2 x3 x4 x5 x6 x7 x8).2.2.2.1 =
    [⟨Rect.unit ![0, 0] ![256, 128] inb_S256x128_S256x128_0_0, k0_pay8 (k0_pay7 x6) x2 x7 x3 x1⟩] := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, readCov_bank,
    View.ld_unit_zero (S := S256x2048) zeros, View.ld_unit_zero (S := S2048x128) zeros, View.ld_unit_zero (S := S1x128) zeros,
    View.ld_unit_zero (S := S128x1000) zeros, View.ld_unit_zero (S := S1x1000) zeros, View.ld_unit_zero (S := S128x16384) zeros,
    View.ld_unit_zero (S := S128x16385) zeros]

/-- What the first point stores into the bank. -/
theorem first_pieces_bank : (kernelRun0_A c i _ harg1 _ harg2 _ harg3 _ harg4 _ harg5 _ harg6 _ harg7 _ harg8 _ harg9 _ harg10 _ harg11 _ harg12 _ harg13 _ harg14 hc x0 x1 x2 x3 x4 x5 x6 x7 x8).2.2.2.2.1 =
    bankPieces x8 := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, readCov_bank,
    View.ld_unit_zero (S := S256x2048) zeros, View.ld_unit_zero (S := S2048x128) zeros, View.ld_unit_zero (S := S1x128) zeros,
    View.ld_unit_zero (S := S128x1000) zeros, View.ld_unit_zero (S := S1x1000) zeros, View.ld_unit_zero (S := S128x16384) zeros,
    View.ld_unit_zero (S := S128x16385) zeros]
  rfl

/-- What a later point stores into the feature block. -/
theorem later_pieces_9 : (kernelRun0_B c i _ harg1 _ harg2 _ harg3 _ harg4 _ harg5 _ harg6 _ harg7 _ harg8 _ harg9 _ harg10 _ harg11 _ harg12 _ harg13 _ harg14 hn x0 x1 x2 x3 x4 x5 x6 x7 x8 S).1 =
    [⟨Rect.unit ![0, 0] ![256, 128] inb_S256x128_S256x128_0_0, k0_pay4 x0 x2 x3⟩] := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg14.read_unread,
    View.ld_unit_zero (S := S256x2048) zeros, View.ld_unit_zero (S := S2048x128) zeros, View.ld_unit_zero (S := S1x128) zeros,
    View.ld_unit_zero (S := S128x1000) zeros, View.ld_unit_zero (S := S1x1000) zeros, View.ld_unit_zero (S := S128x16384) zeros,
    View.ld_unit_zero (S := S128x16385) zeros]

/-- What a later point stores into the class-score block. -/
theorem later_pieces_10 : (kernelRun0_B c i _ harg1 _ harg2 _ harg3 _ harg4 _ harg5 _ harg6 _ harg7 _ harg8 _ harg9 _ harg10 _ harg11 _ harg12 _ harg13 _ harg14 hn x0 x1 x2 x3 x4 x5 x6 x7 x8 S).2.1 =
    [⟨Rect.unit ![0, 0] ![256, 1000] inb_S256x1000_S256x1000_0_0, k0_pay5 x0 x2 x3 x4 x5⟩] := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg14.read_unread,
    View.ld_unit_zero (S := S256x2048) zeros, View.ld_unit_zero (S := S2048x128) zeros, View.ld_unit_zero (S := S1x128) zeros,
    View.ld_unit_zero (S := S128x1000) zeros, View.ld_unit_zero (S := S1x1000) zeros, View.ld_unit_zero (S := S128x16384) zeros,
    View.ld_unit_zero (S := S128x16385) zeros]

/-- What a later point stores into the score block. -/
theorem later_pieces_11 : (kernelRun0_B c i _ harg1 _ harg2 _ harg3 _ harg4 _ harg5 _ harg6 _ harg7 _ harg8 _ harg9 _ harg10 _ harg11 _ harg12 _ harg13 _ harg14 hn x0 x1 x2 x3 x4 x5 x6 x7 x8 S).2.2.1 =
    scorePieces x0 x1 x2 x3 x6 x7 S := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg14.read_unread,
    View.ld_unit_zero (S := S256x2048) zeros, View.ld_unit_zero (S := S2048x128) zeros, View.ld_unit_zero (S := S1x128) zeros,
    View.ld_unit_zero (S := S128x1000) zeros, View.ld_unit_zero (S := S1x1000) zeros, View.ld_unit_zero (S := S128x16384) zeros,
    View.ld_unit_zero (S := S128x16385) zeros]
  rfl

/-- What a later point stores into the key block. -/
theorem later_pieces_12 : (kernelRun0_B c i _ harg1 _ harg2 _ harg3 _ harg4 _ harg5 _ harg6 _ harg7 _ harg8 _ harg9 _ harg10 _ harg11 _ harg12 _ harg13 _ harg14 hn x0 x1 x2 x3 x4 x5 x6 x7 x8 S).2.2.2.1 =
    [⟨Rect.unit ![0, 0] ![256, 128] inb_S256x128_S256x128_0_0, k0_pay8 (k0_pay7 x6) x2 x7 x3 x1⟩] := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg14.read_unread,
    View.ld_unit_zero (S := S256x2048) zeros, View.ld_unit_zero (S := S2048x128) zeros, View.ld_unit_zero (S := S1x128) zeros,
    View.ld_unit_zero (S := S128x1000) zeros, View.ld_unit_zero (S := S1x1000) zeros, View.ld_unit_zero (S := S128x16384) zeros,
    View.ld_unit_zero (S := S128x16385) zeros]

end Runs

/-! ## The pieces read back -/

/-- A block stored whole reads back as what was stored, whatever the buffer held. -/
theorem read_whole {s : Shape} {e : EltTy} (v : View sig .tc .vmem s e) (f : v.ty.Contents (Elt F)) {off : Fin s.rank → ℕ}
    (h : off = fun _ => 0) (inb : ∀ a, off a + s.size a ≤ s.size a) (w : s.Idx → Elt F e) :
    v.read (Elt F) (v.writes (Elt F) f [⟨Rect.unit off s.size inb, w⟩]) = w := by
  subst h
  refine (View.read_writes_eq_canon v f _ fun y => ⟨_, List.mem_cons_self, ?_⟩).trans (View.canon_cons_unit_zero rfl inb w [])
  exact (Rect.mem_set_unit (inb := inb)).mpr fun a => ⟨Nat.zero_le _, by simpa using (y a).isLt⟩

/-- The two stores of the score block read back as the score block. -/
theorem read_scores (v : View sig .tc .vmem S256x16385 .f32) (f : v.ty.Contents (Elt F)) (x0 x1 : Vec F S256x2048 .f32)
    (x2 : Vec F S2048x128 .f32) (x3 : Vec F S1x128 .f32) (x6 : Vec F S2048x128 .f32) (x7 : Vec F S1x128 .f32)
    (S : Vec F S128x16385 .bf16) :
    v.read (Elt F) (v.writes (Elt F) f (scorePieces x0 x1 x2 x3 x6 x7 S)) = scores x0 x1 x2 x3 x6 x7 S :=
  View.read_writes_eq_canon v f _ (score_cover x0 x1 x2 x3 x6 x7 S)

/-- The two stores of the bank read back as the bank. -/
theorem read_bank (v : View sig .tc .vmem S128x16385 .bf16) (f : v.ty.Contents (Elt F)) (x8 : Vec F S128x16384 .f32) :
    v.read (Elt F) (v.writes (Elt F) f (bankPieces x8)) = bank x8 :=
  View.read_writes_eq_canon v f _ (bank_cover x8)

end Cert.Kernel.Body

end
-- ==== Proof.Body.lean ====
module

public import proofs.«01_k».proof.Proof.Gen.KernelIdeal.Frame.RunB
public import Idealize.ShloMosaic.Lib.Pipeline.Value
public import Idealize.ShloMosaic.Lib.Pointwise

/-!
What the kernel's body leaves in each buffer, at a grid point that fills the feature bank (the first) and at one that finds
it filled (every later one). Both cases leave the same values: they differ in where the bank comes from.
-/

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F] [Named F]

/-- A rectangle written at offsets zero and zero is written at the origin. -/
theorem zeros : (![0, 0] : Fin 2 → ℕ) = fun _ => 0 := by decide

/-! ## The values a point leaves -/

/-- The two stores that fill the bank: the features from column 1 on, over a zero column 0. -/
def bankPieces (x8 : Vec F S128x16384 .f32) : List (View.Piece (Elt F) S128x16385 .bf16) :=
  [⟨Rect.unit ![0, 1] ![128, 16384] inb_S128x16385_S128x16384_0_1, k0_pay3 x8⟩,
    ⟨Rect.unit ![0, 0] ![128, 1] inb_S128x16385_S128x1_0_0, k0_pay2⟩]

/-- The bank once filled. -/
def bank (x8 : Vec F S128x16384 .f32) : Vec F S128x16385 .bf16 := View.canon (bankPieces x8)

/-- The two stores of the score block: the query block times the bank, then the positive pair's score over column 0. -/
def scorePieces (x0 x1 : Vec F S256x2048 .f32) (x2 : Vec F S2048x128 .f32) (x3 : Vec F S1x128 .f32)
    (x6 : Vec F S2048x128 .f32) (x7 : Vec F S1x128 .f32) (S : Vec F S128x16385 .bf16) :
    List (View.Piece (Elt F) S256x16385 .f32) :=
  [⟨Rect.unit ![0, 0] ![256, 1] inb_S256x16385_S256x1_0_0, k0_pay1 (k0_pay10 (k0_pay6 x0 x2 x3) (k0_pay7 x6) x2 x7 x3 x1)⟩,
    ⟨Rect.unit ![0, 0] ![256, 16385] inb_S256x16385_S256x16385_0_0, k0_pay9 (k0_pay6 x0 x2 x3) S⟩]

/-- The score block a point leaves when the bank holds `S`. -/
def scores (x0 x1 : Vec F S256x2048 .f32) (x2 : Vec F S2048x128 .f32) (x3 : Vec F S1x128 .f32)
    (x6 : Vec F S2048x128 .f32) (x7 : Vec F S1x128 .f32) (S : Vec F S128x16385 .bf16) : Vec F S256x16385 .f32 :=
  View.canon (scorePieces x0 x1 x2 x3 x6 x7 S)

/-- Every index of the bank is in one of its two stores: column 0 in the zero column, any other in the features. -/
theorem bank_cover (x8 : Vec F S128x16384 .f32) (y : S128x16385.Idx) : ∃ p ∈ bankPieces x8, y ∈ p.1.set := by
  have h0 : (y 0).val < 128 := (y 0).isLt
  have h1 : (y 1).val < 16385 := (y 1).isLt
  by_cases hz : (y 1).val = 0
  · refine ⟨_, List.mem_cons_of_mem _ List.mem_cons_self, (Rect.mem_set_unit (inb := inb_S128x16385_S128x1_0_0)).mpr fun a => ?_⟩
    match a with
    | ⟨0, _⟩ => exact ⟨Nat.zero_le _, h0⟩
    | ⟨1, _⟩ => exact ⟨Nat.zero_le _, show (y 1).val < 0 + 1 by omega⟩
  · refine ⟨_, List.mem_cons_self, (Rect.mem_set_unit (inb := inb_S128x16385_S128x16384_0_1)).mpr fun a => ?_⟩
    match a with
    | ⟨0, _⟩ => exact ⟨Nat.zero_le _, h0⟩
    | ⟨1, _⟩ => exact ⟨show 1 ≤ (y 1).val by omega, show (y 1).val < 1 + 16384 by omega⟩

/-- The score block's second store is the whole block, so the two cover it. -/
theorem score_cover (x0 x1 : Vec F S256x2048 .f32) (x2 : Vec F S2048x128 .f32) (x3 : Vec F S1x128 .f32)
    (x6 : Vec F S2048x128 .f32) (x7 : Vec F S1x128 .f32) (S : Vec F S128x16385 .bf16) (y : S256x16385.Idx) :
    ∃ p ∈ scorePieces x0 x1 x2 x3 x6 x7 S, y ∈ p.1.set := by
  refine ⟨_, List.mem_cons_of_mem _ List.mem_cons_self, (Rect.mem_set_unit (inb := inb_S256x16385_S256x16385_0_0)).mpr fun a => ?_⟩
  match a with
  | ⟨0, _⟩ => exact ⟨Nat.zero_le _, (y 0).isLt⟩
  | ⟨1, _⟩ => exact ⟨Nat.zero_le _, (y 1).isLt⟩

/-- A load of the whole bank right after its two stores reads the filled bank. -/
theorem readCov_bank (v : View sig .tc .vmem S128x16385 .bf16) (x8 : Vec F S128x16384 .f32) :
    v.readCov [⟨Rect.unit ![0, 1] ![128, 16384] inb_S128x16385_S128x16384_0_1, k0_pay3 x8⟩,
      ⟨Rect.unit ![0, 0] ![128, 1] inb_S128x16385_S128x1_0_0, k0_pay2⟩]
      (Rect.unit ![0, 0] ![128, 16385] inb_S128x16385_S128x16385_0_0).toLoadRect = bank x8 := by
  refine (View.readCov_eq_canon_ld v (bankPieces x8) _ fun x => bank_cover x8 _).trans ?_
  exact View.ld_unit_zero (S := S128x16385) zeros ..

/-! ## The body's stores, case by case -/

section Runs

variable (c : Dev nD) (i : grid0.Coords)
  {arg1 : Memref sig .tc .vmem S256x2048 .f32} (harg1 : arg1.IsWhole)
  {arg2 : Memref sig .tc .vmem S256x2048 .f32} (harg2 : arg2.IsWhole)
  {arg3 : Memref sig .tc .vmem S2048x128 .f32} (harg3 : arg3.IsWhole)
  {arg4 : Memref sig .tc .vmem S1x128 .f32} (harg4 : arg4.IsWhole)
  {arg5 : Memref sig .tc .vmem S128x1000 .f32} (harg5 : arg5.IsWhole)
  {arg6 : Memref sig .tc .vmem S1x1000 .f32} (harg6 : arg6.IsWhole)
  {arg7 : Memref sig .tc .vmem S2048x128 .f32} (harg7 : arg7.IsWhole)
  {arg8 : Memref sig .tc .vmem S1x128 .f32} (harg8 : arg8.IsWhole)
  {arg9 : Memref sig .tc .vmem S128x16384 .f32} (harg9 : arg9.IsWhole)
  {arg10 : Memref sig .tc .vmem S256x128 .f32} (harg10 : arg10.IsWhole)
  {arg11 : Memref sig .tc .vmem S256x1000 .f32} (harg11 : arg11.IsWhole)
  {arg12 : Memref sig .tc .vmem S256x16385 .f32} (harg12 : arg12.IsWhole)
  {arg13 : Memref sig .tc .vmem S256x128 .f32} (harg13 : arg13.IsWhole)
  {arg14 : Memref sig .tc .vmem S128x16385 .bf16} (harg14 : arg14.IsWhole)
  (hc : cond0_0 i) (hn : ¬cond0_0 i)
  (x0 : Vec F S256x2048 .f32)
  (x1 : Vec F S256x2048 .f32)
  (x2 : Vec F S2048x128 .f32)
  (x3 : Vec F S1x128 .f32)
  (x4 : Vec F S128x1000 .f32)
  (x5 : Vec F S1x1000 .f32)
  (x6 : Vec F S2048x128 .f32)
  (x7 : Vec F S1x128 .f32)
  (x8 : Vec F S128x16384 .f32)
  (S : Vec F S128x16385 .bf16)

/-- What the first point stores into the feature block. -/
theorem first_pieces_9 : (kernelRun0_A c i _ harg1 _ harg2 _ harg3 _ harg4 _ harg5 _ harg6 _ harg7 _ harg8 _ harg9 _ harg10 _ harg11 _ harg12 _ harg13 _ harg14 hc x0 x1 x2 x3 x4 x5 x6 x7 x8).1 =
    [⟨Rect.unit ![0, 0] ![256, 128] inb_S256x128_S256x128_0_0, k0_pay4 x0 x2 x3⟩] := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, readCov_bank,
    View.ld_unit_zero (S := S256x2048) zeros, View.ld_unit_zero (S := S2048x128) zeros, View.ld_unit_zero (S := S1x128) zeros,
    View.ld_unit_zero (S := S128x1000) zeros, View.ld_unit_zero (S := S1x1000) zeros, View.ld_unit_zero (S := S128x16384) zeros,
    View.ld_unit_zero (S := S128x16385) zeros]

/-- What the first point stores into the class-score block. -/
theorem first_pieces_10 : (kernelRun0_A c i _ harg1 _ harg2 _ harg3 _ harg4 _ harg5 _ harg6 _ harg7 _ harg8 _ harg9 _ harg10 _ harg11 _ harg12 _ harg13 _ harg14 hc x0 x1 x2 x3 x4 x5 x6 x7 x8).2.1 =
    [⟨Rect.unit ![0, 0] ![256, 1000] inb_S256x1000_S256x1000_0_0, k0_pay5 x0 x2 x3 x4 x5⟩] := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, readCov_bank,
    View.ld_unit_zero (S := S256x2048) zeros, View.ld_unit_zero (S := S2048x128) zeros, View.ld_unit_zero (S := S1x128) zeros,
    View.ld_unit_zero (S := S128x1000) zeros, View.ld_unit_zero (S := S1x1000) zeros, View.ld_unit_zero (S := S128x16384) zeros,
    View.ld_unit_zero (S := S128x16385) zeros]

/-- What the first point stores into the score block. -/
theorem first_pieces_11 : (kernelRun0_A c i _ harg1 _ harg2 _ harg3 _ harg4 _ harg5 _ harg6 _ harg7 _ harg8 _ harg9 _ harg10 _ harg11 _ harg12 _ harg13 _ harg14 hc x0 x1 x2 x3 x4 x5 x6 x7 x8).2.2.1 =
    scorePieces x0 x1 x2 x3 x6 x7 (bank x8) := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, readCov_bank,
    View.ld_unit_zero (S := S256x2048) zeros, View.ld_unit_zero (S := S2048x128) zeros, View.ld_unit_zero (S := S1x128) zeros,
    View.ld_unit_zero (S := S128x1000) zeros, View.ld_unit_zero (S := S1x1000) zeros, View.ld_unit_zero (S := S128x16384) zeros,
    View.ld_unit_zero (S := S128x16385) zeros]
  rfl

/-- What the first point stores into the key block. -/
theorem first_pieces_12 : (kernelRun0_A c i _ harg1 _ harg2 _ harg3 _ harg4 _ harg5 _ harg6 _ harg7 _ harg8 _ harg9 _ harg10 _ harg11 _ harg12 _ harg13 _ harg14 hc x0 x1 x2 x3 x4 x5 x6 x7 x8).2.2.2.1 =
    [⟨Rect.unit ![0, 0] ![256, 128] inb_S256x128_S256x128_0_0, k0_pay8 (k0_pay7 x6) x2 x7 x3 x1⟩] := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, readCov_bank,
    View.ld_unit_zero (S := S256x2048) zeros, View.ld_unit_zero (S := S2048x128) zeros, View.ld_unit_zero (S := S1x128) zeros,
    View.ld_unit_zero (S := S128x1000) zeros, View.ld_unit_zero (S := S1x1000) zeros, View.ld_unit_zero (S := S128x16384) zeros,
    View.ld_unit_zero (S := S128x16385) zeros]

/-- What the first point stores into the bank. -/
theorem first_pieces_bank : (kernelRun0_A c i _ harg1 _ harg2 _ harg3 _ harg4 _ harg5 _ harg6 _ harg7 _ harg8 _ harg9 _ harg10 _ harg11 _ harg12 _ harg13 _ harg14 hc x0 x1 x2 x3 x4 x5 x6 x7 x8).2.2.2.2.1 =
    bankPieces x8 := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, readCov_bank,
    View.ld_unit_zero (S := S256x2048) zeros, View.ld_unit_zero (S := S2048x128) zeros, View.ld_unit_zero (S := S1x128) zeros,
    View.ld_unit_zero (S := S128x1000) zeros, View.ld_unit_zero (S := S1x1000) zeros, View.ld_unit_zero (S := S128x16384) zeros,
    View.ld_unit_zero (S := S128x16385) zeros]
  rfl

/-- What a later point stores into the feature block. -/
theorem later_pieces_9 : (kernelRun0_B c i _ harg1 _ harg2 _ harg3 _ harg4 _ harg5 _ harg6 _ harg7 _ harg8 _ harg9 _ harg10 _ harg11 _ harg12 _ harg13 _ harg14 hn x0 x1 x2 x3 x4 x5 x6 x7 x8 S).1 =
    [⟨Rect.unit ![0, 0] ![256, 128] inb_S256x128_S256x128_0_0, k0_pay4 x0 x2 x3⟩] := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg14.read_unread,
    View.ld_unit_zero (S := S256x2048) zeros, View.ld_unit_zero (S := S2048x128) zeros, View.ld_unit_zero (S := S1x128) zeros,
    View.ld_unit_zero (S := S128x1000) zeros, View.ld_unit_zero (S := S1x1000) zeros, View.ld_unit_zero (S := S128x16384) zeros,
    View.ld_unit_zero (S := S128x16385) zeros]

/-- What a later point stores into the class-score block. -/
theorem later_pieces_10 : (kernelRun0_B c i _ harg1 _ harg2 _ harg3 _ harg4 _ harg5 _ harg6 _ harg7 _ harg8 _ harg9 _ harg10 _ harg11 _ harg12 _ harg13 _ harg14 hn x0 x1 x2 x3 x4 x5 x6 x7 x8 S).2.1 =
    [⟨Rect.unit ![0, 0] ![256, 1000] inb_S256x1000_S256x1000_0_0, k0_pay5 x0 x2 x3 x4 x5⟩] := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg14.read_unread,
    View.ld_unit_zero (S := S256x2048) zeros, View.ld_unit_zero (S := S2048x128) zeros, View.ld_unit_zero (S := S1x128) zeros,
    View.ld_unit_zero (S := S128x1000) zeros, View.ld_unit_zero (S := S1x1000) zeros, View.ld_unit_zero (S := S128x16384) zeros,
    View.ld_unit_zero (S := S128x16385) zeros]

/-- What a later point stores into the score block. -/
theorem later_pieces_11 : (kernelRun0_B c i _ harg1 _ harg2 _ harg3 _ harg4 _ harg5 _ harg6 _ harg7 _ harg8 _ harg9 _ harg10 _ harg11 _ harg12 _ harg13 _ harg14 hn x0 x1 x2 x3 x4 x5 x6 x7 x8 S).2.2.1 =
    scorePieces x0 x1 x2 x3 x6 x7 S := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg14.read_unread,
    View.ld_unit_zero (S := S256x2048) zeros, View.ld_unit_zero (S := S2048x128) zeros, View.ld_unit_zero (S := S1x128) zeros,
    View.ld_unit_zero (S := S128x1000) zeros, View.ld_unit_zero (S := S1x1000) zeros, View.ld_unit_zero (S := S128x16384) zeros,
    View.ld_unit_zero (S := S128x16385) zeros]
  rfl

/-- What a later point stores into the key block. -/
theorem later_pieces_12 : (kernelRun0_B c i _ harg1 _ harg2 _ harg3 _ harg4 _ harg5 _ harg6 _ harg7 _ harg8 _ harg9 _ harg10 _ harg11 _ harg12 _ harg13 _ harg14 hn x0 x1 x2 x3 x4 x5 x6 x7 x8 S).2.2.2.1 =
    [⟨Rect.unit ![0, 0] ![256, 128] inb_S256x128_S256x128_0_0, k0_pay8 (k0_pay7 x6) x2 x7 x3 x1⟩] := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg14.read_unread,
    View.ld_unit_zero (S := S256x2048) zeros, View.ld_unit_zero (S := S2048x128) zeros, View.ld_unit_zero (S := S1x128) zeros,
    View.ld_unit_zero (S := S128x1000) zeros, View.ld_unit_zero (S := S1x1000) zeros, View.ld_unit_zero (S := S128x16384) zeros,
    View.ld_unit_zero (S := S128x16385) zeros]

end Runs

/-! ## The pieces read back -/

/-- A block stored whole reads back as what was stored, whatever the buffer held. -/
theorem read_whole {s : Shape} {e : EltTy} (v : View sig .tc .vmem s e) (f : v.ty.Contents (Elt F)) {off : Fin s.rank → ℕ}
    (h : off = fun _ => 0) (inb : ∀ a, off a + s.size a ≤ s.size a) (w : s.Idx → Elt F e) :
    v.read (Elt F) (v.writes (Elt F) f [⟨Rect.unit off s.size inb, w⟩]) = w := by
  subst h
  refine (View.read_writes_eq_canon v f _ fun y => ⟨_, List.mem_cons_self, ?_⟩).trans (View.canon_cons_unit_zero rfl inb w [])
  exact (Rect.mem_set_unit (inb := inb)).mpr fun a => ⟨Nat.zero_le _, by simpa using (y a).isLt⟩

/-- The two stores of the score block read back as the score block. -/
theorem read_scores (v : View sig .tc .vmem S256x16385 .f32) (f : v.ty.Contents (Elt F)) (x0 x1 : Vec F S256x2048 .f32)
    (x2 : Vec F S2048x128 .f32) (x3 : Vec F S1x128 .f32) (x6 : Vec F S2048x128 .f32) (x7 : Vec F S1x128 .f32)
    (S : Vec F S128x16385 .bf16) :
    v.read (Elt F) (v.writes (Elt F) f (scorePieces x0 x1 x2 x3 x6 x7 S)) = scores x0 x1 x2 x3 x6 x7 S :=
  View.read_writes_eq_canon v f _ (score_cover x0 x1 x2 x3 x6 x7 S)

/-- The two stores of the bank read back as the bank. -/
theorem read_bank (v : View sig .tc .vmem S128x16385 .bf16) (f : v.ty.Contents (Elt F)) (x8 : Vec F S128x16384 .f32) :
    v.read (Elt F) (v.writes (Elt F) f (bankPieces x8)) = bank x8 :=
  View.read_writes_eq_canon v f _ (bank_cover x8)

/-! ## The two-store blocks at an index -/

/-- The bank at column `j + 1` holds the rounded features' column `j`. -/
theorem bank_succ (x8 : Vec F S128x16384 .f32) (r : Fin 128) (j : Fin 16384) :
    bank x8 (ix2 r j.succ) = k0_pay3 x8 (ix2 r j) := by
  have hy : (Rect.unit (s := S128x16385) ![0, 1] ![128, 16384] inb_S128x16385_S128x16384_0_1).emb (ix2 r j) = ix2 r j.succ := by
    funext a
    apply Fin.ext
    match a with
    | ⟨0, _⟩ => show 0 + 1 * r.val = r.val; omega
    | ⟨1, _⟩ => show 1 + 1 * j.val = j.val + 1; omega
  rw [← hy]
  exact View.canon_cons_emb _ _ _ _

/-- The score block's column 0 holds the positive pair's score. -/
theorem scores_zero (x0 x1 : Vec F S256x2048 .f32) (x2 : Vec F S2048x128 .f32) (x3 : Vec F S1x128 .f32)
    (x6 : Vec F S2048x128 .f32) (x7 : Vec F S1x128 .f32) (S : Vec F S128x16385 .bf16) (r : Fin 256) :
    scores x0 x1 x2 x3 x6 x7 S (ix2 r 0) = k0_pay1 (k0_pay10 (k0_pay6 x0 x2 x3) (k0_pay7 x6) x2 x7 x3 x1) (ix2 r 0) := by
  have hy : (Rect.unit (s := S256x16385) ![0, 0] ![256, 1] inb_S256x16385_S256x1_0_0).emb (ix2 r 0) = ix2 r 0 := by
    funext a
    apply Fin.ext
    match a with
    | ⟨0, _⟩ => show 0 + 1 * r.val = r.val; omega
    | ⟨1, _⟩ => rfl
  rw [← hy]
  exact View.canon_cons_emb _ _ _ _

/-- The score block's other columns hold the query block times the bank. -/
theorem scores_succ (x0 x1 : Vec F S256x2048 .f32) (x2 : Vec F S2048x128 .f32) (x3 : Vec F S1x128 .f32)
    (x6 : Vec F S2048x128 .f32) (x7 : Vec F S1x128 .f32) (S : Vec F S128x16385 .bf16) (r : Fin 256) (j : Fin 16384) :
    scores x0 x1 x2 x3 x6 x7 S (ix2 r j.succ) = k0_pay9 (k0_pay6 x0 x2 x3) S (ix2 r j.succ) := by
  refine (View.canon_cons_of_not_mem _ _ fun h => ?_).trans ?_
  · have h1 := ((Rect.mem_set_unit (inb := inb_S256x16385_S256x1_0_0)).mp h (1 : Fin 2)).2
    have h2 : j.val + 1 < 0 + 1 := h1
    omega
  · exact congrFun (View.canon_cons_unit_zero (Val := Elt F) (S := S256x16385) (e := .f32) zeros inb_S256x16385_S256x16385_0_0
      (k0_pay9 (k0_pay6 x0 x2 x3) S) []) _

end Cert.KernelIdeal.Body

end
-- ==== Proof.Launch.lean ====
module

public import proofs.«01_k».proof.Proof.Body
public import Idealize.ShloMosaic.Lib.Claim

/-!
The launch of the idealized kernel: what every buffer holds after each grid point, the body's obligation there, the run of
the whole program, and its frame.
-/

@[expose] public section

set_option maxRecDepth 16384

noncomputable section

namespace Cert.KernelIdeal.Launch

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the buffers hold after a point -/

/-- The grid's first point. -/
def first : Fin cfg0.N := ⟨0, by rw [show cfg0.N = 4 from N_0]; omega⟩

/-- The bank every later point finds: the one the first point fills from its feature window. -/
def filled (c : Dev nD) : Vec F S128x16385 .bf16 := bank (iblk m c 8 first)

/-- The feature block point `t` leaves. -/
def feats (c : Dev nD) (t : Fin cfg0.N) : Vec F S256x128 .f32 := k0_pay4 (iblk m c 0 t) (iblk m c 2 t) (iblk m c 3 t)

/-- The class-score block point `t` leaves. -/
def logits (c : Dev nD) (t : Fin cfg0.N) : Vec F S256x1000 .f32 :=
  k0_pay5 (iblk m c 0 t) (iblk m c 2 t) (iblk m c 3 t) (iblk m c 4 t) (iblk m c 5 t)

/-- The score block point `t` leaves. -/
def points (c : Dev nD) (t : Fin cfg0.N) : Vec F S256x16385 .f32 :=
  scores (iblk m c 0 t) (iblk m c 1 t) (iblk m c 2 t) (iblk m c 3 t) (iblk m c 6 t) (iblk m c 7 t) (filled m c)

/-- The key block point `t` leaves. -/
def keys (c : Dev nD) (t : Fin cfg0.N) : Vec F S256x128 .f32 :=
  k0_pay8 (k0_pay7 (iblk m c 6 t)) (iblk m c 2 t) (iblk m c 7 t) (iblk m c 3 t) (iblk m c 1 t)

/-- What is held between points: before the first, the scratch at anything; after any, the scratch at the filled bank. -/
def held (c : Dev nD) : ℕ → sProp 𝕄
  | 0 => Pipeline.ΦA spec0 c
  | _ + 1 => iprop(iprop(owns (c : Thread nD τ) scM0_0 fullShare (filled m c)) ∗ (∃ r, prngReg c r))

theorem held_of_pos (c : Dev nD) {n : ℕ} (h : n ≠ 0) :
    held m c n = iprop(iprop(owns (c : Thread nD τ) scM0_0 fullShare (filled m c)) ∗ (∃ r, prngReg c r)) := by
  cases n with
  | zero => exact absurd rfl h
  | succ n => rfl

/-- The pipeline's contents on core `c`: the arrays as the region finds them; after a point, each input's buffer at its block
    and each output's at the value named above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => feats m c t
    | ⟨10, _⟩ => logits m c t
    | ⟨11, _⟩ => points m c t
    | ⟨12, _⟩ => keys m c t
  Φ t := held m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = feats m c t := by dsimp only [dats]
theorem after_10 (c : Dev nD) (t : Fin cfg0.N) : (dats m 0 c).after 10 t = logits m c t := by dsimp only [dats]
theorem after_11 (c : Dev nD) (t : Fin cfg0.N) : (dats m 0 c).after 11 t = points m c t := by dsimp only [dats]
theorem after_12 (c : Dev nD) (t : Fin cfg0.N) : (dats m 0 c).after 12 t = keys m c t := by dsimp only [dats]

/-! Each input's buffer holds its block when the body starts. -/

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-! ## The body's obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 9600000 in
/-- The body at any point leaves every buffer at the value named for it: the first point runs the case that fills the bank,
    every later one the case that reads it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl,
    after_0, after_1, after_2, after_3, after_4, after_5, after_6, after_7, after_8, after_9, after_10, after_11, after_12]
  rw [show (dats m 0 c).Φ t.succ = held m c (t.val + 1) from rfl, held_of_pos m c (Nat.succ_ne_zero _),
    show (dats m 0 c).Φ t.castSucc = held m c t.val from rfl]
  have hN : t.val < 4 := lt_of_lt_of_eq t.isLt (show cfg0.N = 4 from N_0)
  by_cases hz : t.val = 0
  · obtain rfl : t = first := Fin.ext hz
    rw [show held m c first.val = Pipeline.ΦA spec0 c from rfl, PhiA0_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_A c (grid0.coords first) _ _ _ _ _ _ _ _ _ _ _ _ _ _ _ _ _ _ _ _ _ _ _ _ _ _ _ _ ((hcond0_0 first).mpr (Nat.zero_mod _))
      (iblk m c 0 first) (iblk m c 1 first) (iblk m c 2 first) (iblk m c 3 first) (iblk m c 4 first) (iblk m c 5 first) (iblk m c 6 first) (iblk m c 7 first) (iblk m c 8 first)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [HS]; · iexact HS
    iintro ⟨H0, H1, H2, H3, H4, H5, H6, H7, H8, ⟨%e9, H9⟩, ⟨%e10, H10⟩, ⟨%e11, H11⟩, ⟨%e12, H12⟩, ⟨%es, HS⟩⟩
    isplitl [HS Hg]
    · isplitl [HS]
      · unfold owns; iexists _; isplitr
        swap; · iexact HS
        ipureintro; rw [first_pieces_bank]; exact read_bank ..
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; rw [first_pieces_9]; exact read_whole _ _ zeros _ _
    isplitl [H10]
    · unfold owns; iexists _; isplitr
      swap; · iexact H10
      ipureintro; rw [first_pieces_10]; exact read_whole _ _ zeros _ _
    isplitl [H11]
    · unfold owns; iexists _; isplitr
      swap; · iexact H11
      ipureintro; rw [first_pieces_11]; exact read_scores ..
    unfold owns; iexists _; isplitr
    swap; · iexact H12
    ipureintro; rw [first_pieces_12]; exact read_whole _ _ zeros _ _
  · rw [held_of_pos m c hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_B c (grid0.coords t) _ _ _ _ _ _ _ _ _ _ _ _ _ _ _ _ _ _ _ _ _ _ _ _ _ _ _ _ (fun h => absurd ((hcond0_0 t).mp h) (by omega))
      (iblk m c 0 t) (iblk m c 1 t) (iblk m c 2 t) (iblk m c 3 t) (iblk m c 4 t) (iblk m c 5 t) (iblk m c 6 t) (iblk m c 7 t) (iblk m c 8 t) _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [HS]; · iexact HS
    iintro ⟨H0, H1, H2, H3, H4, H5, H6, H7, H8, ⟨%e9, H9⟩, ⟨%e10, H10⟩, ⟨%e11, H11⟩, ⟨%e12, H12⟩, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; rw [later_pieces_9]; exact read_whole _ _ zeros _ _
    isplitl [H10]
    · unfold owns; iexists _; isplitr
      swap; · iexact H10
      ipureintro; rw [later_pieces_10]; exact read_whole _ _ zeros _ _
    isplitl [H11]
    · unfold owns; iexists _; isplitr
      swap; · iexact H11
      ipureintro; rw [later_pieces_11]; exact read_scores ..
    unfold owns; iexists _; isplitr
    swap; · iexact H12
    ipureintro; rw [later_pieces_12]; exact read_whole _ _ zeros _ _

/-- The body table's row at point `t` is the body as the obligation spells it. -/
theorem defs₀_row (t : Fin cfg0.N) : defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is what is held before the first point. -/
theorem enter (c : Dev nD) : Pipeline.ΦA spec0 c ⊢ (dats m 0 c).Φ 0 := Idealize.SL.BI.Entails.refl _

/-- What is held after the last point is what the launch takes back, the bank's contents forgotten. -/
theorem leave (c : Dev nD) : (dats m 0 c).Φ (Fin.last cfg0.N) ⊢ Pipeline.ΦA spec0 c := by
  rw [show (dats m 0 c).Φ (Fin.last cfg0.N) = held m c cfg0.N from rfl,
    held_of_pos m c (by rw [show cfg0.N = 4 from N_0]; omega), PhiA0_eq]
  iintro ⟨HS, Hg⟩
  isplitl [HS]
  · iexists _; iexact HS
  iexact Hg

/-! ## The run -/

set_option backward.isDefEq.respectTransparency.types false in
/-- Every run of the program ends, with the pipeline's arrays at what `dats` computes, every other buffer as the region
    found it, and every semaphore counter at zero. -/
theorem run : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

/-- The frame: every run ends, with the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.KernelIdeal.Launch

end
-- ==== Proof.Rows.lean ====
/- The mathematics of one row of the batch, over the extended reals: a linear layer, its normalisation, the momentum mix of
   two weights, and the two ways of applying the temperature (multiply by the reciprocal before the product, or divide the
   finished product), with the proof that the two agree. Both the kernel's blocks and the reference's stages are read as
   these functions. -/
module

public import Idealize.ShloMosaic.PureOps.Ideal
public import Idealize.ShloMosaic.Lib.ValueIdx

@[expose] public section

noncomputable section

namespace Cert.Rows

open Idealize.ShloMosaic

/-! ## The layers -/

/-- One entry of a linear layer applied to a row `x`: the sum of products with column `c` of `W`, plus the bias. -/
def affine {k p : ℕ} (x : Fin k → EReal) (W : Fin k → Fin p → EReal) (b : Fin p → EReal) (c : Fin p) : EReal :=
  (∑ j, x j * W j c) + b c

/-- The length a row is divided by: the root of its sum of squares, kept at least the small positive constant. -/
def len (f : Fin 128 → EReal) : EReal :=
  max (Ideal.sqrt (∑ j, f j * f j)) (Ideal.ofBits .f32 0x2B8CBCCC#32)

/-- A row divided by its length. -/
def unit (f : Fin 128 → EReal) (c : Fin 128) : EReal := Ideal.div (f c) (len f)

/-- The momentum mix of an old value `u` and a new value `v`. -/
def mix (u v : EReal) : EReal := u * Ideal.ofBits .f32 0x3F7FBE77#32 + v * Ideal.ofBits .f32 0x3A83126F#32

/-! ## The temperature -/

/-- The named reciprocal of the temperature. -/
def invT : EReal := ((134217728 / 9395241 : ℝ) : EReal)

/-- The temperature's pattern denotes the real number `9395241 / 2^27`. -/
theorem ofBits_temperature : Ideal.ofBits .f32 0x3D8F5C29#32 = ((9395241 / 134217728 : ℝ) : EReal) := by
  simp [Ideal.ofBits, Ideal.ieee, -EReal.coe_mul]; norm_num

/-- The zero pattern of the wide format denotes zero. -/
theorem ofBits_zero : Ideal.ofBits .f32 0x00000000#32 = 0 := by
  simp [Ideal.ofBits, Ideal.ieee]

/-- Dividing by the temperature is multiplying by its named reciprocal, at every extended real. -/
theorem div_temperature (x : EReal) : Ideal.div x (Ideal.ofBits .f32 0x3D8F5C29#32) = x * invT := by
  rw [ofBits_temperature, Ideal.div_coe (by norm_num), invT]
  norm_num

/-- A product with the named reciprocal goes inside a finite sum: the reciprocal is positive and finite. -/
theorem sum_mul_invT {n : ℕ} (f : Fin n → EReal) : (∑ j, f j) * invT = ∑ j, f j * invT := by
  have h0 : (0 : EReal) ≤ invT := by
    rw [invT]; exact_mod_cast (by norm_num : (0 : ℝ) ≤ 134217728 / 9395241)
  have ht : invT ≠ ⊤ := EReal.coe_ne_top _
  induction (Finset.univ : Finset (Fin n)) using Finset.induction_on with
  | empty => simp
  | insert a s ha ih =>
    rw [Finset.sum_insert ha, Finset.sum_insert ha, EReal.right_distrib_of_nonneg_of_ne_top h0 ht, ih]

/-- Scaling the left factors of a sum of products by the named reciprocal, or dividing the finished sum by the
    temperature, give the same extended real. -/
theorem sum_scaled {n : ℕ} (q w : Fin n → EReal) :
    (∑ j, q j * invT * w j) = Ideal.div (∑ j, q j * w j) (Ideal.ofBits .f32 0x3D8F5C29#32) := by
  rw [div_temperature, sum_mul_invT]
  exact Finset.sum_congr rfl fun j _ => mul_right_comm _ _ _

end Cert.Rows

end
-- ==== Proof.Payload.lean ====
/- What the kernel computes on one block of rows, read at a row and a column over the extended reals: each of the body's
   computed vectors is the corresponding function of Proof/Rows.lean of that row. -/
module

public import proofs.«01_k».proof.Proof.Gen.KernelIdeal.Skeleton
public import proofs.«01_k».proof.Proof.Rows
public import Idealize.ShloMosaic.Lib.Pointwise

@[expose] public section

set_option maxRecDepth 16384

noncomputable section

namespace Cert.KernelIdeal.Payload

open Cert.KernelIdeal Cert.KernelIdeal.Gen Cert.Rows Idealize.ShloMosaic Idealize.ShloMosaic.Pointwise

/-- The features' block at a row and a column: the linear layer of that row of the block. -/
theorem feats_apply (x : Vec Ideal S256x2048 .f32) (w : Vec Ideal S2048x128 .f32) (b : Vec Ideal S1x128 .f32)
    (r : Fin 256) (c : Fin 128) :
    k0_pay4 (F := Ideal) x w b (ix2 r c)
      = affine (fun j => x (ix2 r j)) (fun j c => w (ix2 j c)) (fun c => b (ix2 0 c)) c := by
  pointwise [k0_pay4, affine]

/-- The logits' block: the second linear layer, of the features' row. -/
theorem logits_apply (x : Vec Ideal S256x2048 .f32) (w : Vec Ideal S2048x128 .f32) (b : Vec Ideal S1x128 .f32)
    (wc : Vec Ideal S128x1000 .f32) (bc : Vec Ideal S1x1000 .f32) (r : Fin 256) (c : Fin 1000) :
    k0_pay5 (F := Ideal) x w b wc bc (ix2 r c)
      = affine (affine (fun j => x (ix2 r j)) (fun j c => w (ix2 j c)) (fun c => b (ix2 0 c)))
          (fun j c => wc (ix2 j c)) (fun c => bc (ix2 0 c)) c := by
  pointwise [k0_pay5, feats_apply]
  rfl

/-- The query block: the features' row divided by its length. -/
theorem query_apply (x : Vec Ideal S256x2048 .f32) (w : Vec Ideal S2048x128 .f32) (b : Vec Ideal S1x128 .f32)
    (r : Fin 256) (c : Fin 128) :
    k0_pay6 (F := Ideal) x w b (ix2 r c)
      = unit (affine (fun j => x (ix2 r j)) (fun j c => w (ix2 j c)) (fun c => b (ix2 0 c))) c := by
  pointwise [k0_pay6, feats_apply, unit, len]

/-- The key block: the momentum layer's row (weights and bias mixed with the fast layer's) divided by its length. -/
theorem key_apply (mw w : Vec Ideal S2048x128 .f32) (mb b : Vec Ideal S1x128 .f32) (x : Vec Ideal S256x2048 .f32)
    (r : Fin 256) (c : Fin 128) :
    k0_pay8 (F := Ideal) (k0_pay7 mw) w mb b x (ix2 r c)
      = unit (affine (fun j => x (ix2 r j)) (fun j c => mix (mw (ix2 j c)) (w (ix2 j c)))
          (fun c => mix (mb (ix2 0 c)) (b (ix2 0 c)))) c := by
  pointwise [k0_pay8, k0_pay7, unit, len, affine, mix]

/-- The named reciprocal at the extended reals. -/
theorem named_invT : (Named.named κ "inv_t" 0x41649249#32 : Ideal .f32) = invT :=
  IdealRules.named_const.ideal_named_scalar _ _ _ _ rfl

/-- The products with the stored bank: the query row, scaled by the named reciprocal, against a column of the bank. -/
theorem bank_apply (q : FVec Ideal S256x128 .f32) (s : Vec Ideal S128x16385 .bf16) (r : Fin 256) (j : Fin 16385) :
    k0_pay9 (F := Ideal) q s (ix2 r j) = ∑ c, q (ix2 r c) * invT * s (ix2 c j) := by
  pointwise [k0_pay9, named_invT]

/-- The positive logit: the sum over a row of the query times the key, times the named reciprocal. -/
theorem positive_apply (q : FVec Ideal S256x128 .f32) (mw w : Vec Ideal S2048x128 .f32) (mb b : Vec Ideal S1x128 .f32)
    (x : Vec Ideal S256x2048 .f32) (r : Fin 256) (z : Fin 1) :
    k0_pay1 (F := Ideal) (k0_pay10 q (k0_pay7 mw) w mb b x) (ix2 r z)
      = (∑ c, q (ix2 r c) * k0_pay8 (F := Ideal) (k0_pay7 mw) w mb b x (ix2 r c)) * invT := by
  pointwise [k0_pay1, k0_pay10, named_invT]

/-- The bank as it is stored: the change of format changes no value. -/
theorem stored_eq (v : Vec Ideal S128x16384 .f32) : k0_pay3 (F := Ideal) v = v := by
  funext j
  pointwise [k0_pay3]

end Cert.KernelIdeal.Payload

end
-- ==== Proof.Reference.lean ====
/- What the reference computes, read at a row and a column over the extended reals: each of its four results is the
   corresponding function of Proof/Rows.lean of that row of the batch. -/
module

public import proofs.«01_k».proof.Proof.Gen.ReferenceIdeal.Read
public import proofs.«01_k».proof.Proof.Rows
public import Idealize.ShloMosaic.Lib.Pointwise

@[expose] public section

set_option maxRecDepth 16384

noncomputable section

namespace Cert.ReferenceIdeal.Results

open Cert.ReferenceIdeal Cert.ReferenceIdeal.Gen Cert.ReferenceIdeal.Read Cert.Rows Idealize.ShloMosaic
  Idealize.ShloMosaic.Pointwise

/-- A two-dimensional array of single-precision floats over the extended reals. -/
abbrev Arr (s : Shape) : Type := (⟨s, .f32⟩ : BufTy).Contents (Elt Ideal)

variable (x0 x1 : Arr S1024x2048) (x2 : Arr S2048x128) (x3 : Arr S128) (x4 : Arr S128x1000) (x5 : Arr S1000)
  (x6 : Arr S2048x128) (x7 : Arr S128) (x10 : Arr S128x16384)

/-- The features: the linear layer of the row. -/
theorem feats_apply (r : Fin 1024) (c : Fin 128) :
    val_main_v3 (F := Ideal) x0 x2 x3 (ix2 r c)
      = affine (fun j => x0 (ix2 r j)) (fun j c => x2 (ix2 j c)) (fun c => x3 (ix1 c)) c := by
  pointwise [val_main_v3, val_main_v2, val_main_v1, val_main_v0, affine]

/-- The logits: the second linear layer of the features' row. -/
theorem logits_apply (r : Fin 1024) (c : Fin 1000) :
    val_main_v7 (F := Ideal) x0 x2 x3 x4 x5 (ix2 r c)
      = affine (affine (fun j => x0 (ix2 r j)) (fun j c => x2 (ix2 j c)) (fun c => x3 (ix1 c)))
          (fun j c => x4 (ix2 j c)) (fun c => x5 (ix1 c)) c := by
  pointwise [val_main_v7, val_main_v6, val_main_v5, val_main_v4, feats_apply]
  rfl

/-- The query: the features' row divided by its length. -/
theorem query_apply (r : Fin 1024) (c : Fin 128) :
    val_main_v12 (F := Ideal) x0 x2 x3 (ix2 r c)
      = unit (affine (fun j => x0 (ix2 r j)) (fun j c => x2 (ix2 j c)) (fun c => x3 (ix1 c))) c := by
  pointwise [val_main_v12, val_main_v11, val_main_v10, val_main_v9, val_main_v8, val_main_cst, val_main_call0_v2,
    val_main_call0_v1, val_main_call0_cst, val_main_call0_v0, feats_apply, unit, len]

/-- The key: the momentum layer's row (weights and bias mixed with the fast layer's) divided by its length. -/
theorem key_apply (r : Fin 1024) (c : Fin 128) :
    val_main_v31 (F := Ideal) x1 x2 x3 x6 x7 (ix2 r c)
      = unit (affine (fun j => x1 (ix2 r j)) (fun j c => mix (x6 (ix2 j c)) (x2 (ix2 j c)))
          (fun c => mix (x7 (ix1 c)) (x3 (ix1 c)))) c := by
  pointwise [val_main_v31, val_main_v30, val_main_v29, val_main_v28, val_main_v27, val_main_cst_4, val_main_call1_v2,
    val_main_call1_v1, val_main_call1_cst, val_main_call1_v0, val_main_v26, val_main_v25, val_main_v24, val_main_v23,
    val_main_v22, val_main_v21, val_main_v20, val_main_v19, val_main_v18, val_main_v17, val_main_v16, val_main_v15,
    val_main_v14, val_main_v13, val_main_cst_0, val_main_cst_1, val_main_cst_2, val_main_cst_3, unit, len, affine, mix]

/-- The first column of the scores: the row's query times its key, summed, divided by the temperature. -/
theorem score_zero (r : Fin 1024) :
    val_main_v38 (F := Ideal) x0 x1 x2 x3 x6 x7 x10 (ix2 r 0)
      = Ideal.div (∑ c, val_main_v12 (F := Ideal) x0 x2 x3 (ix2 r c) * val_main_v31 (F := Ideal) x1 x2 x3 x6 x7 (ix2 r c))
          (Ideal.ofBits .f32 0x3D8F5C29#32) := by
  pointwise [val_main_v38, val_main_v37, val_main_v36, val_main_v34, val_main_v33, val_main_v32, val_main_cst_5,
    val_main_cst_6]

/-- Every later column of the scores: the row's query against a column of the bank, divided by the temperature. -/
theorem score_succ (r : Fin 1024) (j : Fin 16384) :
    val_main_v38 (F := Ideal) x0 x1 x2 x3 x6 x7 x10 (ix2 r j.succ)
      = Ideal.div (∑ c, val_main_v12 (F := Ideal) x0 x2 x3 (ix2 r c) * x10 (ix2 c j))
          (Ideal.ofBits .f32 0x3D8F5C29#32) := by
  pointwise [val_main_v38, val_main_v37, val_main_v36, val_main_v35, val_main_cst_6]
  rw [dif_neg (by simp)]
  rfl

end Cert.ReferenceIdeal.Results

end
-- ==== Proof.Arrays.lean ====
module

public import proofs.«01_k».proof.Proof.Launch
public import proofs.«01_k».proof.Proof.Payload
public import proofs.«01_k».proof.Proof.Reference

/-!
The kernel's blocks set beside the reference's arrays: each input block read in its array, and each output block shown to be
the block, at the same rows, of the reference's result at the kernel's own arguments.
-/

@[expose] public section

set_option maxRecDepth 16384

noncomputable section

namespace Cert.KernelIdeal.Arrays

open Cert.KernelIdeal Cert.KernelIdeal.Gen Cert.KernelIdeal.Launch Cert.KernelIdeal.Body
open Cert.ReferenceIdeal.Read
open Cert.ReferenceIdeal.Results (Arr)
open Idealize.ShloMosaic Idealize.ShloMosaic.TcCoe Idealize.SL.Sem Idealize.ShloMosaic.Pointwise
open Cert.Rows

variable (m : (ℓ : Loc nD τ sig) → Buf (Elt Ideal) ℓ) (c : Dev nD)

/-! ## The arguments -/

/-- The query images. -/
def imQ : Arr S1024x2048 := m ((c : Thread nD τ).loc main_arg0)
/-- The key images. -/
def imK : Arr S1024x2048 := m ((c : Thread nD τ).loc main_arg1)
/-- The feature layer's weights. -/
def wF : Arr S2048x128 := m ((c : Thread nD τ).loc main_arg2)
/-- The feature layer's bias. -/
def bF : Arr S128 := m ((c : Thread nD τ).loc main_arg3)
/-- The class layer's weights. -/
def wC : Arr S128x1000 := m ((c : Thread nD τ).loc main_arg4)
/-- The class layer's bias. -/
def bC : Arr S1000 := m ((c : Thread nD τ).loc main_arg5)
/-- The momentum layer's weights. -/
def mwF : Arr S2048x128 := m ((c : Thread nD τ).loc main_arg6)
/-- The momentum layer's bias. -/
def mbF : Arr S128 := m ((c : Thread nD τ).loc main_arg7)
/-- The stored features. -/
def stored : Arr S128x16384 := m ((c : Thread nD τ).loc main_arg10)

/-! ## Where a block lies -/

/-- The batch row that row `r` of point `t`'s block is. -/
def row (t : Fin cfg0.N) (r : Fin 256) : Fin 1024 :=
  ⟨t.val * 256 + r.val, by have := lt_of_lt_of_eq t.isLt (show cfg0.N = 4 from N_0); omega⟩

/-! The block of each window at each point: the batch windows move down one block per point, the others stay. -/

theorem index_0 : ∀ t : Fin cfg0.N, win0_0.index t (0 : Fin 2) = t.val ∧ win0_0.index t (1 : Fin 2) = 0 :=
  (by decide +kernel : ∀ t : Fin grid0.N, _)
theorem index_1 : ∀ t : Fin cfg0.N, win0_1.index t (0 : Fin 2) = t.val ∧ win0_1.index t (1 : Fin 2) = 0 :=
  (by decide +kernel : ∀ t : Fin grid0.N, _)
theorem index_2 : ∀ t : Fin cfg0.N, win0_2.index t (0 : Fin 2) = 0 ∧ win0_2.index t (1 : Fin 2) = 0 :=
  (by decide +kernel : ∀ t : Fin grid0.N, _)
theorem index_3 : ∀ t : Fin cfg0.N, win0_3.index t (0 : Fin 2) = 0 ∧ win0_3.index t (1 : Fin 2) = 0 :=
  (by decide +kernel : ∀ t : Fin grid0.N, _)
theorem index_4 : ∀ t : Fin cfg0.N, win0_4.index t (0 : Fin 2) = 0 ∧ win0_4.index t (1 : Fin 2) = 0 :=
  (by decide +kernel : ∀ t : Fin grid0.N, _)
theorem index_5 : ∀ t : Fin cfg0.N, win0_5.index t (0 : Fin 2) = 0 ∧ win0_5.index t (1 : Fin 2) = 0 :=
  (by decide +kernel : ∀ t : Fin grid0.N, _)
theorem index_6 : ∀ t : Fin cfg0.N, win0_6.index t (0 : Fin 2) = 0 ∧ win0_6.index t (1 : Fin 2) = 0 :=
  (by decide +kernel : ∀ t : Fin grid0.N, _)
theorem index_7 : ∀ t : Fin cfg0.N, win0_7.index t (0 : Fin 2) = 0 ∧ win0_7.index t (1 : Fin 2) = 0 :=
  (by decide +kernel : ∀ t : Fin grid0.N, _)
theorem index_8 : ∀ t : Fin cfg0.N, win0_8.index t (0 : Fin 2) = 0 ∧ win0_8.index t (1 : Fin 2) = 0 :=
  (by decide +kernel : ∀ t : Fin grid0.N, _)
theorem index_9 : ∀ t : Fin cfg0.N, win0_9.index t (0 : Fin 2) = t.val ∧ win0_9.index t (1 : Fin 2) = 0 :=
  (by decide +kernel : ∀ t : Fin grid0.N, _)
theorem index_10 : ∀ t : Fin cfg0.N, win0_10.index t (0 : Fin 2) = t.val ∧ win0_10.index t (1 : Fin 2) = 0 :=
  (by decide +kernel : ∀ t : Fin grid0.N, _)
theorem index_11 : ∀ t : Fin cfg0.N, win0_11.index t (0 : Fin 2) = t.val ∧ win0_11.index t (1 : Fin 2) = 0 :=
  (by decide +kernel : ∀ t : Fin grid0.N, _)
theorem index_12 : ∀ t : Fin cfg0.N, win0_12.index t (0 : Fin 2) = t.val ∧ win0_12.index t (1 : Fin 2) = 0 :=
  (by decide +kernel : ∀ t : Fin grid0.N, _)

/-! ## The input blocks, read in their arrays -/

/-- Row `r` of the query block is row `row t r` of the query images. -/
theorem read_0 (t : Fin cfg0.N) (r : Fin 256) (j : Fin 2048) :
    iblk m c 0 t (ix2 r j) = imQ m c (ix2 (row t r) j) := by
  obtain ⟨h0, h1⟩ := index_0 t
  have he : ((cfg0.win 0).blk t).view.emb (ix2 r j) = ix2 (row t r) j := by
    funext a
    apply Fin.ext
    match a with
    | ⟨0, _⟩ => show win0_0.index t (0 : Fin 2) * 256 + 1 * r.val = t.val * 256 + r.val; omega
    | ⟨1, _⟩ => show win0_0.index t (1 : Fin 2) * 2048 + 1 * j.val = j.val; omega
  show V m c main_arg0 (((cfg0.win 0).blk t).view.emb (ix2 r j)) = _
  rw [he, V_main_arg0]
  rfl

/-- Row `r` of the key block is row `row t r` of the key images. -/
theorem read_1 (t : Fin cfg0.N) (r : Fin 256) (j : Fin 2048) :
    iblk m c 1 t (ix2 r j) = imK m c (ix2 (row t r) j) := by
  obtain ⟨h0, h1⟩ := index_1 t
  have he : ((cfg0.win 1).blk t).view.emb (ix2 r j) = ix2 (row t r) j := by
    funext a
    apply Fin.ext
    match a with
    | ⟨0, _⟩ => show win0_1.index t (0 : Fin 2) * 256 + 1 * r.val = t.val * 256 + r.val; omega
    | ⟨1, _⟩ => show win0_1.index t (1 : Fin 2) * 2048 + 1 * j.val = j.val; omega
  show V m c main_arg1 (((cfg0.win 1).blk t).view.emb (ix2 r j)) = _
  rw [he, V_main_arg1]
  rfl

/-- The window holds the whole array. -/
theorem read_2 (t : Fin cfg0.N) (r : Fin 2048) (j : Fin 128) :
    iblk m c 2 t (ix2 r j) = wF m c (ix2 r j) := by
  obtain ⟨h0, h1⟩ := index_2 t
  have he : ((cfg0.win 2).blk t).view.emb (ix2 r j) = ix2 r j := by
    funext a
    apply Fin.ext
    match a with
    | ⟨0, _⟩ => show win0_2.index t (0 : Fin 2) * 2048 + 1 * r.val = r.val; omega
    | ⟨1, _⟩ => show win0_2.index t (1 : Fin 2) * 128 + 1 * j.val = j.val; omega
  show V m c main_arg2 (((cfg0.win 2).blk t).view.emb (ix2 r j)) = _
  rw [he, V_main_arg2]
  rfl

/-- The one-row copy of the bias `bF` that the region finds. -/
theorem copy_3 : V m c main_call0_v0 = shapeCast S1x128 (bF m c) := by
  entry_read
  rfl

/-- The bias window holds the whole bias. -/
theorem read_3 (t : Fin cfg0.N) (j : Fin 128) :
    iblk m c 3 t (ix2 0 j) = bF m c (ix1 j) := by
  obtain ⟨h0, h1⟩ := index_3 t
  have he : ((cfg0.win 3).blk t).view.emb (ix2 0 j) = ix2 0 j := by
    funext a
    apply Fin.ext
    match a with
    | ⟨0, _⟩ => show win0_3.index t (0 : Fin 2) * 1 + 1 * 0 = 0; omega
    | ⟨1, _⟩ => show win0_3.index t (1 : Fin 2) * 128 + 1 * j.val = j.val; omega
  show V m c main_call0_v0 (((cfg0.win 3).blk t).view.emb (ix2 0 j)) = _
  rw [he, copy_3]
  pointwise []

/-- The window holds the whole array. -/
theorem read_4 (t : Fin cfg0.N) (r : Fin 128) (j : Fin 1000) :
    iblk m c 4 t (ix2 r j) = wC m c (ix2 r j) := by
  obtain ⟨h0, h1⟩ := index_4 t
  have he : ((cfg0.win 4).blk t).view.emb (ix2 r j) = ix2 r j := by
    funext a
    apply Fin.ext
    match a with
    | ⟨0, _⟩ => show win0_4.index t (0 : Fin 2) * 128 + 1 * r.val = r.val; omega
    | ⟨1, _⟩ => show win0_4.index t (1 : Fin 2) * 1000 + 1 * j.val = j.val; omega
  show V m c main_arg4 (((cfg0.win 4).blk t).view.emb (ix2 r j)) = _
  rw [he, V_main_arg4]
  rfl

/-- The one-row copy of the bias `bC` that the region finds. -/
theorem copy_5 : V m c main_call0_v1 = shapeCast S1x1000 (bC m c) := by
  entry_read
  rfl

/-- The bias window holds the whole bias. -/
theorem read_5 (t : Fin cfg0.N) (j : Fin 1000) :
    iblk m c 5 t (ix2 0 j) = bC m c (ix1 j) := by
  obtain ⟨h0, h1⟩ := index_5 t
  have he : ((cfg0.win 5).blk t).view.emb (ix2 0 j) = ix2 0 j := by
    funext a
    apply Fin.ext
    match a with
    | ⟨0, _⟩ => show win0_5.index t (0 : Fin 2) * 1 + 1 * 0 = 0; omega
    | ⟨1, _⟩ => show win0_5.index t (1 : Fin 2) * 1000 + 1 * j.val = j.val; omega
  show V m c main_call0_v1 (((cfg0.win 5).blk t).view.emb (ix2 0 j)) = _
  rw [he, copy_5]
  pointwise []

/-- The window holds the whole array. -/
theorem read_6 (t : Fin cfg0.N) (r : Fin 2048) (j : Fin 128) :
    iblk m c 6 t (ix2 r j) = mwF m c (ix2 r j) := by
  obtain ⟨h0, h1⟩ := index_6 t
  have he : ((cfg0.win 6).blk t).view.emb (ix2 r j) = ix2 r j := by
    funext a
    apply Fin.ext
    match a with
    | ⟨0, _⟩ => show win0_6.index t (0 : Fin 2) * 2048 + 1 * r.val = r.val; omega
    | ⟨1, _⟩ => show win0_6.index t (1 : Fin 2) * 128 + 1 * j.val = j.val; omega
  show V m c main_arg6 (((cfg0.win 6).blk t).view.emb (ix2 r j)) = _
  rw [he, V_main_arg6]
  rfl

/-- The one-row copy of the bias `mbF` that the region finds. -/
theorem copy_7 : V m c main_call0_v2 = shapeCast S1x128 (mbF m c) := by
  entry_read
  rfl

/-- The bias window holds the whole bias. -/
theorem read_7 (t : Fin cfg0.N) (j : Fin 128) :
    iblk m c 7 t (ix2 0 j) = mbF m c (ix1 j) := by
  obtain ⟨h0, h1⟩ := index_7 t
  have he : ((cfg0.win 7).blk t).view.emb (ix2 0 j) = ix2 0 j := by
    funext a
    apply Fin.ext
    match a with
    | ⟨0, _⟩ => show win0_7.index t (0 : Fin 2) * 1 + 1 * 0 = 0; omega
    | ⟨1, _⟩ => show win0_7.index t (1 : Fin 2) * 128 + 1 * j.val = j.val; omega
  show V m c main_call0_v2 (((cfg0.win 7).blk t).view.emb (ix2 0 j)) = _
  rw [he, copy_7]
  pointwise []

/-- The window holds the whole array. -/
theorem read_8 (t : Fin cfg0.N) (r : Fin 128) (j : Fin 16384) :
    iblk m c 8 t (ix2 r j) = stored m c (ix2 r j) := by
  obtain ⟨h0, h1⟩ := index_8 t
  have he : ((cfg0.win 8).blk t).view.emb (ix2 r j) = ix2 r j := by
    funext a
    apply Fin.ext
    match a with
    | ⟨0, _⟩ => show win0_8.index t (0 : Fin 2) * 128 + 1 * r.val = r.val; omega
    | ⟨1, _⟩ => show win0_8.index t (1 : Fin 2) * 16384 + 1 * j.val = j.val; omega
  show V m c main_arg10 (((cfg0.win 8).blk t).view.emb (ix2 r j)) = _
  rw [he, V_main_arg10]
  rfl

/-! ## The output blocks, set beside the reference -/

/-- The feature block is the reference's features at the block's rows. -/
theorem feats_block (t : Fin cfg0.N) (r : Fin 256) (j : Fin 128) :
    feats m c t (ix2 r j) = val_main_v3 (F := Ideal) (imQ m c) (wF m c) (bF m c) (ix2 (row t r) j) := by
  rw [feats, Payload.feats_apply, Cert.ReferenceIdeal.Results.feats_apply]
  simp only [read_0, read_2, read_3]

/-- The class-score block is the reference's class scores at the block's rows. -/
theorem logits_block (t : Fin cfg0.N) (r : Fin 256) (j : Fin 1000) :
    logits m c t (ix2 r j)
      = val_main_v7 (F := Ideal) (imQ m c) (wF m c) (bF m c) (wC m c) (bC m c) (ix2 (row t r) j) := by
  rw [logits, Payload.logits_apply, Cert.ReferenceIdeal.Results.logits_apply]
  simp only [read_0, read_2, read_3, read_4, read_5]

/-- The query block is the reference's queries at the block's rows. -/
theorem query_block (t : Fin cfg0.N) (r : Fin 256) (j : Fin 128) :
    k0_pay6 (F := Ideal) (iblk m c 0 t) (iblk m c 2 t) (iblk m c 3 t) (ix2 r j)
      = val_main_v12 (F := Ideal) (imQ m c) (wF m c) (bF m c) (ix2 (row t r) j) := by
  rw [Payload.query_apply, Cert.ReferenceIdeal.Results.query_apply]
  simp only [read_0, read_2, read_3]

/-- The key block is the reference's keys at the block's rows. -/
theorem keys_block (t : Fin cfg0.N) (r : Fin 256) (j : Fin 128) :
    keys m c t (ix2 r j)
      = val_main_v31 (F := Ideal) (imK m c) (wF m c) (bF m c) (mwF m c) (mbF m c) (ix2 (row t r) j) := by
  rw [keys, Payload.key_apply, Cert.ReferenceIdeal.Results.key_apply]
  simp only [read_1, read_2, read_3, read_6, read_7]

/-- The score block's column 0 is the reference's: multiplying the sum by the reciprocal is dividing it by the temperature. -/
theorem points_zero (t : Fin cfg0.N) (r : Fin 256) :
    points m c t (ix2 r 0)
      = val_main_v38 (F := Ideal) (imQ m c) (imK m c) (wF m c) (bF m c) (mwF m c) (mbF m c) (stored m c)
          (ix2 (row t r) 0) := by
  rw [points, scores_zero, Payload.positive_apply, Cert.ReferenceIdeal.Results.score_zero, div_temperature]
  refine congrArg (· * invT) (Finset.sum_congr rfl fun j _ => ?_)
  exact congrArg₂ (· * ·) (query_block m c t r j) (keys_block m c t r j)

/-- The score block's later columns are the reference's: scaling the query by the reciprocal is dividing the sum by the
    temperature. -/
theorem points_succ (t : Fin cfg0.N) (r : Fin 256) (j : Fin 16384) :
    points m c t (ix2 r j.succ)
      = val_main_v38 (F := Ideal) (imQ m c) (imK m c) (wF m c) (bF m c) (mwF m c) (mbF m c) (stored m c)
          (ix2 (row t r) j.succ) := by
  rw [points, scores_succ, Payload.bank_apply, Cert.ReferenceIdeal.Results.score_succ, ← sum_scaled]
  refine Finset.sum_congr rfl fun d _ => ?_
  rw [filled, bank_succ, Payload.stored_eq, read_8, query_block]

/-- The score block is the reference's scores at the block's rows. -/
theorem points_block (t : Fin cfg0.N) (r : Fin 256) (j : Fin 16385) :
    points m c t (ix2 r j)
      = val_main_v38 (F := Ideal) (imQ m c) (imK m c) (wF m c) (bF m c) (mwF m c) (mbF m c) (stored m c)
          (ix2 (row t r) j) :=
  Fin.cases (points_zero m c t r) (points_succ m c t r) j

/-! ## The arrays after the run -/

/-- The features array after the run is the reference's features: the points' blocks cover it, and each holds its rows. -/
theorem final_9 : (dats m 0 c).arrAt 9 cfg0.N
    = val_main_v3 (F := Ideal) (imQ m c) (wF m c) (bF m c) := by
  refine (dats m 0 c).arrAt_eq_of_cover 9 _ (fun t _ => ?_) fun i => ?_
  · obtain ⟨h0, h1⟩ := index_9 t
    show (cfg0.win 9).cut (grid0.coords t) ((dats m 0 c).after 9 t) = _
    rw [after_9]
    funext y
    have hx : (cfg0.win 9).xinj (grid0.coords t) y = ix2 ⟨(y 0).val, (y 0).isLt⟩ ⟨(y 1).val, (y 1).isLt⟩ := by
      funext a
      match a with
      | ⟨0, _⟩ => rfl
      | ⟨1, _⟩ => rfl
    have he : ((cfg0.win 9).blk t).view.emb y = ix2 (row t ⟨(y 0).val, (y 0).isLt⟩) ⟨(y 1).val, (y 1).isLt⟩ := by
      funext a
      apply Fin.ext
      match a with
      | ⟨0, _⟩ => show win0_9.index t (0 : Fin 2) * 256 + 1 * (y 0).val = t.val * 256 + (y 0).val; omega
      | ⟨1, _⟩ => show win0_9.index t (1 : Fin 2) * 128 + 1 * (y 1).val = (y 1).val; omega
    show feats m c t ((cfg0.win 9).xinj (grid0.coords t) y)
      = val_main_v3 (F := Ideal) (imQ m c) (wF m c) (bF m c) (((cfg0.win 9).blk t).view.emb y)
    rw [hx, he]
    exact feats_block m c t _ _
  · have hi0 : (i 0).val < 1024 := (i 0).isLt
    have hi1 : (i 1).val < 128 := (i 1).isLt
    have ht : (i 0).val / 256 < cfg0.N := by rw [show cfg0.N = 4 from N_0]; omega
    obtain ⟨h0, h1⟩ := index_9 ⟨(i 0).val / 256, ht⟩
    replace h0 : win0_9.index ⟨(i 0).val / 256, ht⟩ (0 : Fin 2) = (i 0).val / 256 := h0
    refine ⟨⟨(i 0).val / 256, ht⟩, flush0_9 _, ?_⟩
    show i ∈ ((View.whole main_v0_0).slice (win0_9.rect ⟨(i 0).val / 256, ht⟩)).set
    rw [View.set_slice_whole, Rect.mem_set_unit]
    intro a
    match a with
    | ⟨0, _⟩ =>
      show win0_9.index ⟨(i 0).val / 256, ht⟩ (0 : Fin 2) * 256 ≤ (i 0).val
        ∧ (i 0).val < win0_9.index ⟨(i 0).val / 256, ht⟩ (0 : Fin 2) * 256 + 256
      omega
    | ⟨1, _⟩ =>
      show win0_9.index ⟨(i 0).val / 256, ht⟩ (1 : Fin 2) * 128 ≤ (i 1).val
        ∧ (i 1).val < win0_9.index ⟨(i 0).val / 256, ht⟩ (1 : Fin 2) * 128 + 128
      omega

/-- The class scores array after the run is the reference's class scores: the points' blocks cover it, and each holds its rows. -/
theorem final_10 : (dats m 0 c).arrAt 10 cfg0.N
    = val_main_v7 (F := Ideal) (imQ m c) (wF m c) (bF m c) (wC m c) (bC m c) := by
  refine (dats m 0 c).arrAt_eq_of_cover 10 _ (fun t _ => ?_) fun i => ?_
  · obtain ⟨h0, h1⟩ := index_10 t
    show (cfg0.win 10).cut (grid0.coords t) ((dats m 0 c).after 10 t) = _
    rw [after_10]
    funext y
    have hx : (cfg0.win 10).xinj (grid0.coords t) y = ix2 ⟨(y 0).val, (y 0).isLt⟩ ⟨(y 1).val, (y 1).isLt⟩ := by
      funext a
      match a with
      | ⟨0, _⟩ => rfl
      | ⟨1, _⟩ => rfl
    have he : ((cfg0.win 10).blk t).view.emb y = ix2 (row t ⟨(y 0).val, (y 0).isLt⟩) ⟨(y 1).val, (y 1).isLt⟩ := by
      funext a
      apply Fin.ext
      match a with
      | ⟨0, _⟩ => show win0_10.index t (0 : Fin 2) * 256 + 1 * (y 0).val = t.val * 256 + (y 0).val; omega
      | ⟨1, _⟩ => show win0_10.index t (1 : Fin 2) * 1000 + 1 * (y 1).val = (y 1).val; omega
    show logits m c t ((cfg0.win 10).xinj (grid0.coords t) y)
      = val_main_v7 (F := Ideal) (imQ m c) (wF m c) (bF m c) (wC m c) (bC m c) (((cfg0.win 10).blk t).view.emb y)
    rw [hx, he]
    exact logits_block m c t _ _
  · have hi0 : (i 0).val < 1024 := (i 0).isLt
    have hi1 : (i 1).val < 1000 := (i 1).isLt
    have ht : (i 0).val / 256 < cfg0.N := by rw [show cfg0.N = 4 from N_0]; omega
    obtain ⟨h0, h1⟩ := index_10 ⟨(i 0).val / 256, ht⟩
    replace h0 : win0_10.index ⟨(i 0).val / 256, ht⟩ (0 : Fin 2) = (i 0).val / 256 := h0
    refine ⟨⟨(i 0).val / 256, ht⟩, flush0_10 _, ?_⟩
    show i ∈ ((View.whole main_v0_1).slice (win0_10.rect ⟨(i 0).val / 256, ht⟩)).set
    rw [View.set_slice_whole, Rect.mem_set_unit]
    intro a
    match a with
    | ⟨0, _⟩ =>
      show win0_10.index ⟨(i 0).val / 256, ht⟩ (0 : Fin 2) * 256 ≤ (i 0).val
        ∧ (i 0).val < win0_10.index ⟨(i 0).val / 256, ht⟩ (0 : Fin 2) * 256 + 256
      omega
    | ⟨1, _⟩ =>
      show win0_10.index ⟨(i 0).val / 256, ht⟩ (1 : Fin 2) * 1000 ≤ (i 1).val
        ∧ (i 1).val < win0_10.index ⟨(i 0).val / 256, ht⟩ (1 : Fin 2) * 1000 + 1000
      omega

/-- The scores array after the run is the reference's scores: the points' blocks cover it, and each holds its rows. -/
theorem final_11 : (dats m 0 c).arrAt 11 cfg0.N
    = val_main_v38 (F := Ideal) (imQ m c) (imK m c) (wF m c) (bF m c) (mwF m c) (mbF m c) (stored m c) := by
  refine (dats m 0 c).arrAt_eq_of_cover 11 _ (fun t _ => ?_) fun i => ?_
  · obtain ⟨h0, h1⟩ := index_11 t
    show (cfg0.win 11).cut (grid0.coords t) ((dats m 0 c).after 11 t) = _
    rw [after_11]
    funext y
    have hx : (cfg0.win 11).xinj (grid0.coords t) y = ix2 ⟨(y 0).val, (y 0).isLt⟩ ⟨(y 1).val, (y 1).isLt⟩ := by
      funext a
      match a with
      | ⟨0, _⟩ => rfl
      | ⟨1, _⟩ => rfl
    have he : ((cfg0.win 11).blk t).view.emb y = ix2 (row t ⟨(y 0).val, (y 0).isLt⟩) ⟨(y 1).val, (y 1).isLt⟩ := by
      funext a
      apply Fin.ext
      match a with
      | ⟨0, _⟩ => show win0_11.index t (0 : Fin 2) * 256 + 1 * (y 0).val = t.val * 256 + (y 0).val; omega
      | ⟨1, _⟩ => show win0_11.index t (1 : Fin 2) * 16385 + 1 * (y 1).val = (y 1).val; omega
    show points m c t ((cfg0.win 11).xinj (grid0.coords t) y)
      = val_main_v38 (F := Ideal) (imQ m c) (imK m c) (wF m c) (bF m c) (mwF m c) (mbF m c) (stored m c) (((cfg0.win 11).blk t).view.emb y)
    rw [hx, he]
    exact points_block m c t _ _
  · have hi0 : (i 0).val < 1024 := (i 0).isLt
    have hi1 : (i 1).val < 16385 := (i 1).isLt
    have ht : (i 0).val / 256 < cfg0.N := by rw [show cfg0.N = 4 from N_0]; omega
    obtain ⟨h0, h1⟩ := index_11 ⟨(i 0).val / 256, ht⟩
    replace h0 : win0_11.index ⟨(i 0).val / 256, ht⟩ (0 : Fin 2) = (i 0).val / 256 := h0
    refine ⟨⟨(i 0).val / 256, ht⟩, flush0_11 _, ?_⟩
    show i ∈ ((View.whole main_v0_2).slice (win0_11.rect ⟨(i 0).val / 256, ht⟩)).set
    rw [View.set_slice_whole, Rect.mem_set_unit]
    intro a
    match a with
    | ⟨0, _⟩ =>
      show win0_11.index ⟨(i 0).val / 256, ht⟩ (0 : Fin 2) * 256 ≤ (i 0).val
        ∧ (i 0).val < win0_11.index ⟨(i 0).val / 256, ht⟩ (0 : Fin 2) * 256 + 256
      omega
    | ⟨1, _⟩ =>
      show win0_11.index ⟨(i 0).val / 256, ht⟩ (1 : Fin 2) * 16385 ≤ (i 1).val
        ∧ (i 1).val < win0_11.index ⟨(i 0).val / 256, ht⟩ (1 : Fin 2) * 16385 + 16385
      omega

/-- The keys array after the run is the reference's keys: the points' blocks cover it, and each holds its rows. -/
theorem final_12 : (dats m 0 c).arrAt 12 cfg0.N
    = val_main_v31 (F := Ideal) (imK m c) (wF m c) (bF m c) (mwF m c) (mbF m c) := by
  refine (dats m 0 c).arrAt_eq_of_cover 12 _ (fun t _ => ?_) fun i => ?_
  · obtain ⟨h0, h1⟩ := index_12 t
    show (cfg0.win 12).cut (grid0.coords t) ((dats m 0 c).after 12 t) = _
    rw [after_12]
    funext y
    have hx : (cfg0.win 12).xinj (grid0.coords t) y = ix2 ⟨(y 0).val, (y 0).isLt⟩ ⟨(y 1).val, (y 1).isLt⟩ := by
      funext a
      match a with
      | ⟨0, _⟩ => rfl
      | ⟨1, _⟩ => rfl
    have he : ((cfg0.win 12).blk t).view.emb y = ix2 (row t ⟨(y 0).val, (y 0).isLt⟩) ⟨(y 1).val, (y 1).isLt⟩ := by
      funext a
      apply Fin.ext
      match a with
      | ⟨0, _⟩ => show win0_12.index t (0 : Fin 2) * 256 + 1 * (y 0).val = t.val * 256 + (y 0).val; omega
      | ⟨1, _⟩ => show win0_12.index t (1 : Fin 2) * 128 + 1 * (y 1).val = (y 1).val; omega
    show keys m c t ((cfg0.win 12).xinj (grid0.coords t) y)
      = val_main_v31 (F := Ideal) (imK m c) (wF m c) (bF m c) (mwF m c) (mbF m c) (((cfg0.win 12).blk t).view.emb y)
    rw [hx, he]
    exact keys_block m c t _ _
  · have hi0 : (i 0).val < 1024 := (i 0).isLt
    have hi1 : (i 1).val < 128 := (i 1).isLt
    have ht : (i 0).val / 256 < cfg0.N := by rw [show cfg0.N = 4 from N_0]; omega
    obtain ⟨h0, h1⟩ := index_12 ⟨(i 0).val / 256, ht⟩
    replace h0 : win0_12.index ⟨(i 0).val / 256, ht⟩ (0 : Fin 2) = (i 0).val / 256 := h0
    refine ⟨⟨(i 0).val / 256, ht⟩, flush0_12 _, ?_⟩
    show i ∈ ((View.whole main_v0_3).slice (win0_12.rect ⟨(i 0).val / 256, ht⟩)).set
    rw [View.set_slice_whole, Rect.mem_set_unit]
    intro a
    match a with
    | ⟨0, _⟩ =>
      show win0_12.index ⟨(i 0).val / 256, ht⟩ (0 : Fin 2) * 256 ≤ (i 0).val
        ∧ (i 0).val < win0_12.index ⟨(i 0).val / 256, ht⟩ (0 : Fin 2) * 256 + 256
      omega
    | ⟨1, _⟩ =>
      show win0_12.index ⟨(i 0).val / 256, ht⟩ (1 : Fin 2) * 128 ≤ (i 1).val
        ∧ (i 1).val < win0_12.index ⟨(i 0).val / 256, ht⟩ (1 : Fin 2) * 128 + 128
      omega

end Cert.KernelIdeal.Arrays

end
-- ==== Proof.Results.lean ====
module

public import proofs.«01_k».proof.Proof.Arrays
public import proofs.«01_k».proof.Proof.Gen.ReferenceIdeal.Run

/-!
The two runs, their results named alike: the kernel's four arrays and the reference's four arrays are the same four terms of
the kernel's arguments.
-/

@[expose] public section

set_option maxRecDepth 16384

noncomputable section

namespace Cert.KernelIdeal.Results

open Cert.KernelIdeal Cert.KernelIdeal.Gen Cert.KernelIdeal.Launch Cert.KernelIdeal.Arrays
open Cert.ReferenceIdeal.Read
open Cert.ReferenceIdeal.Results (Arr)
open Idealize.ShloMosaic Idealize.ShloMosaic.TcCoe Idealize.SL.Sem

variable (m : (ℓ : Loc nD τ sig) → Buf (Elt Ideal) ℓ)

/-- The first result: the features. -/
def features (c : Dev nD) : Arr S1024x128 := val_main_v3 (F := Ideal) (imQ m c) (wF m c) (bF m c)

/-- The second result: the class scores. -/
def classes (c : Dev nD) : Arr S1024x1000 := val_main_v7 (F := Ideal) (imQ m c) (wF m c) (bF m c) (wC m c) (bC m c)

/-- The third result: the contrastive scores, the positive pair's in column 0. -/
def contrast (c : Dev nD) : Arr S1024x16385 :=
  val_main_v38 (F := Ideal) (imQ m c) (imK m c) (wF m c) (bF m c) (mwF m c) (mbF m c) (stored m c)

/-- The fourth result: the keys. -/
def momentum (c : Dev nD) : Arr S1024x128 :=
  val_main_v31 (F := Ideal) (imK m c) (wF m c) (bF m c) (mwF m c) (mbF m c)

/-- Every run of the kernel ends with its result arrays holding the four results and its arguments unchanged. -/
theorem kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = features m c
      ∧ r.2.mem ((c.tc : Thread nD τ).loc main_v0_1) = classes m c
      ∧ r.2.mem ((c.tc : Thread nD τ).loc main_v0_2) = contrast m c
      ∧ r.2.mem ((c.tc : Thread nD τ).loc main_v0_3) = momentum m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono
    (fun _ h c => ⟨((h.1.1 c).1 9).trans (final_9 m c), ((h.1.1 c).1 10).trans (final_10 m c),
      ((h.1.1 c).1 11).trans (final_11 m c), ((h.1.1 c).1 12).trans (final_12 m c), h.2.1 c⟩)
    (θ_run_and (run m ρ) (frame m ρ))

end Cert.KernelIdeal.Results

end
-- ==== Proof.lean ====
/- The claims assembled: the three frames, the named constant, and the equation of the kernel's results with the
   reference's. The mathematics is in the modules under Proof/: Rows (the row functions and the temperature's reciprocal),
   Payload (what one block computes), Body and Launch (what a run of the idealized kernel leaves), BitsBody and BitsLaunch
   (the same of the kernel at its bits), Reference (what the reference computes), Arrays and Results (the two set equal). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.BitsLaunch
public import proofs.«01_k».proof.Proof.Launch
public import proofs.«01_k».proof.Proof.Results
public import Idealize.ShloMosaic.Adequacy
public import Idealize.ShloMosaic.Init

@[expose] public section

set_option maxRecDepth 16384

noncomputable section

namespace Cert.Proof

open Idealize.ShloMosaic Idealize.SL.Sem Cert.KernelIdeal.Results Cert.ReferenceIdeal.Read

/-- The reference's run ends with its arguments unchanged and every semaphore counter at zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- The literal the kernel multiplies by is the named constant rounded. -/
theorem named_reciprocal : Cert.preserves_Kernel_KernelIdeal :=
  IdealRules.named_const.statement Cert.KernelIdeal.κ "inv_t" .f32 0x41649249#32 ((134217728 / 9395241 : ℝ) : EReal) rfl

/-- The kernel's four results are the reference's. -/
theorem results_equal : Cert.algebraic_KernelIdeal_ReferenceIdeal (hKernelIdeal := Cert.KernelIdeal.Gen.facts)
    (hReferenceIdeal := Cert.ReferenceIdeal.Gen.facts) := by
  intro m ρ m' ρ' _ hagree
  refine ⟨features m, classes m, contrast m, momentum m, kernel m ρ, ?_⟩
  refine (θ_run Cert.ReferenceIdeal.defs _ _).mono (fun _ h c => ?_) (Cert.ReferenceIdeal.Value.run (F := Ideal) m' ρ')
  obtain ⟨a0, a1, a2, a3, a4, a5, a6, a7, -, -, a10⟩ := hagree c
  obtain ⟨h0, h1, h2, h3, hargs⟩ := h c
  refine ⟨h0.trans ?_, h1.trans ?_, h2.trans ?_, h3.trans ?_, hargs⟩
  · rw [val_main_v3_eq, a0, a2, a3]; rfl
  · rw [val_main_v7_eq, a0, a2, a3, a4, a5]; rfl
  · rw [val_main_v38_eq, a0, a1, a2, a3, a6, a7, a10]; rfl
  · rw [val_main_v31_eq, a1, a2, a3, a6, a7]; rfl

/-- All five claims. -/
theorem claim : Cert.Claim :=
  ⟨Cert.Kernel.Gen.facts, Cert.KernelIdeal.Gen.facts, Cert.ReferenceIdeal.Gen.facts,
    fun m ρ _ => Cert.Kernel.Launch.frame m ρ, fun m ρ _ => Cert.KernelIdeal.Launch.frame m ρ,
    reference_frame, named_reciprocal, results_equal⟩

end Cert.Proof

end
